-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_small_parts_KernelIdeal [hPre_small_parts_KernelIdeal : Cert.Pre_small_parts_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_small_parts_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_small_parts_ReferenceIdeal [hPre_small_parts_ReferenceIdeal : Cert.Pre_small_parts_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_small_parts_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_small_parts_KernelIdeal [hKernelIdeal : Cert.KernelIdeal.Facts] [hPre_small_parts_KernelIdeal : Cert.Pre_small_parts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_small_parts_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_small_parts_ReferenceIdeal [hReferenceIdeal : Cert.ReferenceIdeal.Facts] [hPre_small_parts_ReferenceIdeal : Cert.Pre_small_parts_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_small_parts_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1))
      ∧ r.2.sem = fun _ => 0)

def preserves_Kernel_KernelIdeal : Prop :=
  True

def algebraic_KernelIdeal_ReferenceIdeal_pre_small_parts_KernelIdeal [hKernelIdeal : Cert.KernelIdeal.Facts] [hReferenceIdeal : Cert.ReferenceIdeal.Facts] [hPre_small_parts_KernelIdeal : Cert.Pre_small_parts_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_small_parts_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![1024, 1024]⟩ 1 4 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)) →
    ∃ (v0 : Buf (Elt Ideal) (((0 : Dev Cert.UnclippedIdeal.nD).tc : Thread Cert.UnclippedIdeal.nD Cert.UnclippedIdeal.τ).loc Cert.UnclippedIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 1024]⟩ ⟨2, ![1024, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v5) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1))

def Claim : Prop :=
  ∃ (hKernel : Cert.Kernel.Facts) (hKernelIdeal : Cert.KernelIdeal.Facts) (hReferenceIdeal : Cert.ReferenceIdeal.Facts) (hUnclippedIdeal : Cert.UnclippedIdeal.Facts) (hPre_small_parts_KernelIdeal : Cert.Pre_small_parts_KernelIdeal.Facts) (hPre_small_parts_ReferenceIdeal : Cert.Pre_small_parts_ReferenceIdeal.Facts),
    quiescent_Kernel (hKernel := hKernel)
    ∧ quiescent_KernelIdeal (hKernelIdeal := hKernelIdeal)
    ∧ quiescent_KernelIdeal_pre_small_parts_KernelIdeal (hKernelIdeal := hKernelIdeal) (hPre_small_parts_KernelIdeal := hPre_small_parts_KernelIdeal)
    ∧ quiescent_ReferenceIdeal (hReferenceIdeal := hReferenceIdeal)
    ∧ quiescent_ReferenceIdeal_pre_small_parts_ReferenceIdeal (hReferenceIdeal := hReferenceIdeal) (hPre_small_parts_ReferenceIdeal := hPre_small_parts_ReferenceIdeal)
    ∧ quiescent_UnclippedIdeal (hUnclippedIdeal := hUnclippedIdeal)
    ∧ preserves_Kernel_KernelIdeal
    ∧ algebraic_KernelIdeal_ReferenceIdeal_pre_small_parts_KernelIdeal (hKernelIdeal := hKernelIdeal) (hReferenceIdeal := hReferenceIdeal) (hPre_small_parts_KernelIdeal := hPre_small_parts_KernelIdeal)
    ∧ algebraic_KernelIdeal_UnclippedIdeal (hKernelIdeal := hKernelIdeal) (hUnclippedIdeal := hUnclippedIdeal)
-- ==== Pre_small_parts_KernelIdeal.lean ====
abbrev S1024x256 : Shape := ⟨2, ![1024, 256]⟩
abbrev S1024x1024 : Shape := ⟨2, ![1024, 1024]⟩
abbrev S256x1024 : Shape := ⟨2, ![256, 1024]⟩
abbrev S_ : Shape := ⟨0, ![]⟩

class Facts : Prop where
  slices_S1024x1024_S256x1024_0_0 : S1024x1024.Slices ![0, 0] S256x1024
  bcast_S_S1024x1024 : S_.BroadcastsInDim S1024x1024 (![] : Fin 0 → Fin S1024x1024.rank)
  reducesTo_S1024x1024_S_d0_1 : S1024x1024.ReducesTo [0, 1] S_
  h_S_ : 0 < S_.numel
  slices_S1024x1024_S256x1024_256_0 : S1024x1024.Slices ![256, 0] S256x1024
  slices_S1024x1024_S256x1024_512_0 : S1024x1024.Slices ![512, 0] S256x1024
  slices_S1024x1024_S256x1024_768_0 : S1024x1024.Slices ![768, 0] S256x1024
  dot_S1024x256_S256x1024_S1024x1024_1_0_0_1_n_n_wf : DotDims.WF S1024x256 S256x1024 S1024x1024 [1] [0] [0] [1] [] []

variable [Facts]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def fn_part1 {F : FTy → Type} [FloatOps F] (main_arg0 : FVec F S1024x256 .f32) (main_arg1 : FVec F S1024x1024 .f32) (main_v13 : IVec S_ 1) (main_v16 : FVec F S1024x1024 .f32) (main_v17 : FVec F S1024x1024 .f32) : IVec S_ 1 :=
  let main_v18 : IVec S1024x1024 1 := cmpf .ole main_v16 main_v17
  let main_c_4 : IVec S_ 1 := constantI S_ 1 1#1
  let main_v19 : IVec S_ 1 := (fun x v => Host.reduce IntOp.andi x v reducesTo_S1024x1024_S_d0_1 h_S_) main_v18 main_c_4
  let main_v20 : IVec S_ 1 := andi main_v13 main_v19
  let main_v21 : FVec F S256x1024 .f32 := (extractStridedSlice S256x1024 ![768, 0] · slices_S1024x1024_S256x1024_768_0) main_arg1
  let main_v22 : FVec F S1024x1024 .f32 := (fun l r => Host.dotGeneral dot_S1024x256_S256x1024_S1024x1024_1_0_0_1_n_n none l r) main_arg0 main_v21
  let main_v23 : FVec F S1024x1024 .f32 := Host.absf main_v22
  let main_cst_5 : FVec F S_ .f32 := constant S_ .f32 0x41700000#32
  let main_v24 : FVec F S1024x1024 .f32 := broadcastInDim S1024x1024 ![] bcast_S_S1024x1024 main_cst_5
  let main_v25 : IVec S1024x1024 1 := cmpf .ole main_v23 main_v24
  let main_c_6 : IVec S_ 1 := constantI S_ 1 1#1
  let main_v26 : IVec S_ 1 := (fun x v => Host.reduce IntOp.andi x v reducesTo_S1024x1024_S_d0_1 h_S_) main_v25 main_c_6
  let main_v27 : IVec S_ 1 := andi main_v20 main_v26
  main_v27

def fn {F : FTy → Type} [FloatOps F] (main_arg0 : FVec F S1024x256 .f32) (main_arg1 : FVec F S1024x1024 .f32) : IVec S_ 1 :=
  let main_v0 : FVec F S256x1024 .f32 := (extractStridedSlice S256x1024 ![0, 0] · slices_S1024x1024_S256x1024_0_0) main_arg1
  let main_v1 : FVec F S1024x1024 .f32 := (fun l r => Host.dotGeneral dot_S1024x256_S256x1024_S1024x1024_1_0_0_1_n_n none l r) main_arg0 main_v0
  let main_v2 : FVec F S1024x1024 .f32 := Host.absf main_v1
  let main_cst : FVec F S_ .f32 := constant S_ .f32 0x41700000#32
  let main_v3 : FVec F S1024x1024 .f32 := broadcastInDim S1024x1024 ![] bcast_S_S1024x1024 main_cst
  let main_v4 : IVec S1024x1024 1 := cmpf .ole main_v2 main_v3
  let main_c : IVec S_ 1 := constantI S_ 1 1#1
  let main_v5 : IVec S_ 1 := (fun x v => Host.reduce IntOp.andi x v reducesTo_S1024x1024_S_d0_1 h_S_) main_v4 main_c
  let main_c_0 : IVec S_ 1 := constantI S_ 1 1#1
  let main_v6 : IVec S_ 1 := andi main_c_0 main_v5
  let main_v7 : FVec F S256x1024 .f32 := (extractStridedSlice S256x1024 ![256, 0] · slices_S1024x1024_S256x1024_256_0) main_arg1
  let main_v8 : FVec F S1024x1024 .f32 := (fun l r => Host.dotGeneral dot_S1024x256_S256x1024_S1024x1024_1_0_0_1_n_n none l r) main_arg0 main_v7
  let main_v9 : FVec F S1024x1024 .f32 := Host.absf main_v8
  let main_cst_1 : FVec F S_ .f32 := constant S_ .f32 0x41700000#32
  let main_v10 : FVec F S1024x1024 .f32 := broadcastInDim S1024x1024 ![] bcast_S_S1024x1024 main_cst_1
  let main_v11 : IVec S1024x1024 1 := cmpf .ole main_v9 main_v10
  let main_c_2 : IVec S_ 1 := constantI S_ 1 1#1
  let main_v12 : IVec S_ 1 := (fun x v => Host.reduce IntOp.andi x v reducesTo_S1024x1024_S_d0_1 h_S_) main_v11 main_c_2
  let main_v13 : IVec S_ 1 := andi main_v6 main_v12
  let main_v14 : FVec F S256x1024 .f32 := (extractStridedSlice S256x1024 ![512, 0] · slices_S1024x1024_S256x1024_512_0) main_arg1
  let main_v15 : FVec F S1024x1024 .f32 := (fun l r => Host.dotGeneral dot_S1024x256_S256x1024_S1024x1024_1_0_0_1_n_n none l r) main_arg0 main_v14
  let main_v16 : FVec F S1024x1024 .f32 := Host.absf main_v15
  let main_cst_3 : FVec F S_ .f32 := constant S_ .f32 0x41700000#32
  let main_v17 : FVec F S1024x1024 .f32 := broadcastInDim S1024x1024 ![] bcast_S_S1024x1024 main_cst_3
  fn_part1 (F := F) main_arg0 main_arg1 main_v13 main_v16 main_v17
-- ==== Pre_small_parts_ReferenceIdeal.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S_ 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x41700000#32
  let main_v2 : FVec F S1024x1024 .f32 := broadcastInDim S1024x1024 ![] bcast_S_S1024x1024 main_cst
  let main_v3 : IVec S1024x1024 1 := cmpf .ole main_v1 main_v2
  let main_c : IVec S_ 1 := constantI S_ 1 1#1
  let main_v4 : IVec S_ 1 := (fun x v => Host.reduce IntOp.andi x v reducesTo_S1024x1024_S_d0_1 h_S_) main_v3 main_c
  let main_c_0 : IVec S_ 1 := constantI S_ 1 1#1
  let main_v5 : IVec S_ 1 := andi main_c_0 main_v4
  main_v5
-- ==== Kernel.lean ====
abbrev S1024x256 : Shape := ⟨2, ![1024, 256]⟩
abbrev S1024x1024 : Shape := ⟨2, ![1024, 1024]⟩
abbrev S256x1024 : Shape := ⟨2, ![256, 1024]⟩
abbrev S3x256x256 : Shape := ⟨3, ![3, 256, 256]⟩
abbrev S3 : Shape := ⟨1, ![3]⟩
abbrev S_ : Shape := ⟨0, ![]⟩
abbrev S1 : Shape := ⟨1, ![1]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S1024x256, .f32⟩
  | .hbm, ⟨1, _⟩ => ⟨S1024x1024, .f32⟩
  | .hbm, ⟨2, _⟩ => ⟨S256x1024, .f32⟩
  | .local _ .vmem, ⟨0, _⟩ => ⟨S1024x256, .f32⟩
  | .local _ .vmem, ⟨1, _⟩ => ⟨S1024x1024, .f32⟩
  | .local _ .vmem, ⟨2, _⟩ => ⟨S256x1024, .f32⟩
  | .local _ .vmem, ⟨3, _⟩ => ⟨S1024x256, .bf16⟩
  | .local _ .vmem, ⟨4, _⟩ => ⟨S3x256x256, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  (ofTc nBuf bufTy 1 9 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c256_i32 : BitVec 32 := 256#32
  let v60 : BitVec 32 := Scalar.muli v59 c256_i32
  let c0_i32_45 : BitVec 32 := 0#32
  ![v60.toNat, 0]
def k0_dev4 (d0 : Dev nD) : Nat :=
  let c0_i32_42 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_31 : BitVec 32 := 1#32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c1_i32_41 : BitVec 32 := 1#32
  let v61 : BitVec 32 := Scalar.muli v59 c1_i32_41
  let v62 : BitVec 32 := Scalar.addi c0_i32_42 v61
  v62.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_46 : BitVec 32 := 2#32
  let v70 : BitVec 32 := Scalar.addi v2 c2_i32_46
  let c4_i32_47 : BitVec 32 := 4#32
  let c0_i32_48 : BitVec 32 := 0#32
  let v71 : BitVec 1 := Scalar.cmpi .eq c4_i32_47 c0_i32_48
  let c1_i32_49 : BitVec 32 := 1#32
  let v72 : BitVec 32 := Scalar.select v71 c1_i32_49 c4_i32_47
  let v73 : BitVec 32 := Scalar.remsi v70 v72
  let c0_i32_51 : BitVec 32 := 0#32
  let v75 : BitVec 1 := Scalar.cmpi .slt v73 c0_i32_51
  let c0_i32_52 : BitVec 32 := 0#32
  let v76 : BitVec 1 := Scalar.cmpi .slt v72 c0_i32_52
  let v77 : BitVec 1 := Scalar.xori v75 v76
  let c0_i32_50 : BitVec 32 := 0#32
  let v74 : BitVec 1 := Scalar.cmpi .ne v73 c0_i32_50
  let v78 : BitVec 1 := Scalar.andi v77 v74
  let v79 : BitVec 32 := Scalar.addi v73 v72
  let v80 : BitVec 32 := Scalar.select v78 v79 v73
  let c1_i32_57 : BitVec 32 := 1#32
  let v82 : BitVec 32 := Scalar.muli v80 c1_i32_57
  let v83 : BitVec 32 := Scalar.addi c0_i32_58 v82
  v83.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_62 : BitVec 32 := 3#32
  let v91 : BitVec 32 := Scalar.addi v2 c3_i32_62
  let c4_i32_63 : BitVec 32 := 4#32
  let c0_i32_64 : BitVec 32 := 0#32
  let v92 : BitVec 1 := Scalar.cmpi .eq c4_i32_63 c0_i32_64
  let c1_i32_65 : BitVec 32 := 1#32
  let v93 : BitVec 32 := Scalar.select v92 c1_i32_65 c4_i32_63
  let v94 : BitVec 32 := Scalar.remsi v91 v93
  let c0_i32_67 : BitVec 32 := 0#32
  let v96 : BitVec 1 := Scalar.cmpi .slt v94 c0_i32_67
  let c0_i32_68 : BitVec 32 := 0#32
  let v97 : BitVec 1 := Scalar.cmpi .slt v93 c0_i32_68
  let v98 : BitVec 1 := Scalar.xori v96 v97
  let c0_i32_66 : BitVec 32 := 0#32
  let v95 : BitVec 1 := Scalar.cmpi .ne v94 c0_i32_66
  let v99 : BitVec 1 := Scalar.andi v98 v95
  let v100 : BitVec 32 := Scalar.addi v94 v93
  let v101 : BitVec 32 := Scalar.select v99 v100 v94
  let c1_i32_73 : BitVec 32 := 1#32
  let v103 : BitVec 32 := Scalar.muli v101 c1_i32_73
  let v104 : BitVec 32 := Scalar.addi c0_i32_74 v103
  v104.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_78 : BitVec 32 := 256#32
  let v112 : BitVec 32 := Scalar.muli v2 c256_i32_78
  let v113 : Index := Scalar.indexCast v112
  let c0_79 : Index := 0#32
  ![v113.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_80 : BitVec 32 := 256#32
  let v116 : BitVec 32 := Scalar.muli v2 c256_i32_80
  let v117 : Index := Scalar.indexCast v116
  let c0_81 : Index := 0#32
  ![v117.toNat, 0]
def k0_off4 (d0 : Dev nD) (c1_i32_90 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v128 : BitVec 32 := Scalar.addi v2 c1_i32_90
  let c4_i32_91 : BitVec 32 := 4#32
  let c0_i32_92 : BitVec 32 := 0#32
  let v129 : BitVec 1 := Scalar.cmpi .eq c4_i32_91 c0_i32_92
  let c1_i32_93 : BitVec 32 := 1#32
  let v130 : BitVec 32 := Scalar.select v129 c1_i32_93 c4_i32_91
  let v131 : BitVec 32 := Scalar.remsi v128 v130
  let c0_i32_95 : BitVec 32 := 0#32
  let v133 : BitVec 1 := Scalar.cmpi .slt v131 c0_i32_95
  let c0_i32_96 : BitVec 32 := 0#32
  let v134 : BitVec 1 := Scalar.cmpi .slt v130 c0_i32_96
  let v135 : BitVec 1 := Scalar.xori v133 v134
  let c0_i32_94 : BitVec 32 := 0#32
  let v132 : BitVec 1 := Scalar.cmpi .ne v131 c0_i32_94
  let v136 : BitVec 1 := Scalar.andi v135 v132
  let v137 : BitVec 32 := Scalar.addi v131 v130
  let v138 : BitVec 32 := Scalar.select v136 v137 v131
  let c256_i32_100 : BitVec 32 := 256#32
  let v142 : BitVec 32 := Scalar.muli v138 c256_i32_100
  let v143 : Index := Scalar.indexCast v142
  let c0_101 : Index := 0#32
  ![v143.toNat, 0]
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== UnclippedIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Cells.lean ====
/-
# The four devices, the buffers they exchange and the semaphores they exchange them on

Device `c` keeps its rows of the product and sends the other three row blocks of its narrowed `x` to the devices
that own them. `peer c e` is the device `e + 1` places after `c`, so the three others are `peer c 0`, `peer c 1`,
`peer c 2`; seen from `peer c e`, device `c` is `peer _ (op e)`, where `op` swaps 0 and 2.

For each semaphore: who waits, who pays, how much, and what the payment hands over.

* barrier of `c`: `c` waits once, for 3. Each `peer c d` pays one unit, and with it lends `c` its landing slot
  `op d`, which is the slot `c` is about to fill.
* receive semaphore `s` of `c`: `c` waits once, for the credit of one 256x256 block. The copy from `peer c s` pays it;
  slot `s` of `c` then reads as that device's narrowed rows of block `c`.
* send semaphore `s` of `c`: `c` waits once, for the credit of one block. Its own copy to `peer c (op s)` pays it, and
  gives back the rows that were copied.

A device signals the three barriers, fills its narrowed copy of `x`, waits on its barrier, starts the three copies,
and only then waits for the landings (slots 0, 2, 1) and, at the end, for its own copies (0, 1, 2).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The devices -/

/-- The device `e + 1` places after `c`. -/
def peer (c : Dev nD) (e : Fin 3) : Dev nD :=
  ⟨(c.val + e.val + 1) % 4, Nat.mod_lt _ (by decide)⟩

/-- The way back: `c` is `op e + 1` places after `peer c e`. -/
def op : Fin 3 → Fin 3 := fun | 0 => 2 | 1 => 1 | 2 => 0

theorem op_op (e : Fin 3) : op (op e) = e := by revert e; decide
theorem peer_op (c : Dev nD) (e : Fin 3) : peer (peer c e) (op e) = c := by revert c e; decide
theorem op_peer (c : Dev nD) (e : Fin 3) : peer (peer c (op e)) e = c := by revert c e; decide
theorem peer_eq_iff (c d : Dev nD) (e : Fin 3) : peer d e = c ↔ d = peer c (op e) := by revert c d e; decide

/-- Going `e + 1` places on is a permutation of the devices. -/
def shift (e : Fin 3) : Dev nD ≃ Dev nD :=
  ⟨fun c => peer c e, fun c => peer c (op e), fun c => peer_op c e, fun c => op_peer c e⟩

/-- The devices the program names: the three signals', then the three copies'. -/
theorem dev1_eq (c : Dev nD) : (⟨k0_dev1 c, k0_dev1_lt c⟩ : Dev nD) = peer c 0 :=
  Fin.ext ((by decide +kernel : ∀ c : Dev nD, k0_dev1 c = (peer c 0).val) c)
theorem dev2_eq (c : Dev nD) : (⟨k0_dev2 c, k0_dev2_lt c⟩ : Dev nD) = peer c 1 :=
  Fin.ext ((by decide +kernel : ∀ c : Dev nD, k0_dev2 c = (peer c 1).val) c)
theorem dev3_eq (c : Dev nD) : (⟨k0_dev3 c, k0_dev3_lt c⟩ : Dev nD) = peer c 2 :=
  Fin.ext ((by decide +kernel : ∀ c : Dev nD, k0_dev3 c = (peer c 2).val) c)
theorem dev4_eq (c : Dev nD) : (⟨k0_dev4 c, k0_dev4_lt c⟩ : Dev nD) = peer c 0 :=
  Fin.ext ((by decide +kernel : ∀ c : Dev nD, k0_dev4 c = (peer c 0).val) c)
theorem dev5_eq (c : Dev nD) : (⟨k0_dev5 c, k0_dev5_lt c⟩ : Dev nD) = peer c 1 :=
  Fin.ext ((by decide +kernel : ∀ c : Dev nD, k0_dev5 c = (peer c 1).val) c)
theorem dev6_eq (c : Dev nD) : (⟨k0_dev6 c, k0_dev6_lt c⟩ : Dev nD) = peer c 2 :=
  Fin.ext ((by decide +kernel : ∀ c : Dev nD, k0_dev6 c = (peer c 2).val) c)

/-- The row offsets the program computes: copy `e` reads the rows of block `peer c e`, -/
theorem off1_eq (c : Dev nD) (e : Fin 3) :
    k0_off1 c (BitVec.ofNat 32 (1 + e.val)) = ![256 * (peer c e).val, 0] :=
  (by decide +kernel : ∀ (c : Dev nD) (e : Fin 3), k0_off1 c (BitVec.ofNat 32 (1 + e.val)) = ![256 * (peer c e).val, 0]) c e
/-- and the rows of `w` that meet the block from `peer c e` are those of block `peer c e`. -/
theorem off4_eq (c : Dev nD) (e : Fin 3) :
    k0_off4 c (BitVec.ofNat 32 (1 + e.val)) = ![256 * (peer c e).val, 0] :=
  (by decide +kernel : ∀ (c : Dev nD) (e : Fin 3), k0_off4 c (BitVec.ofNat 32 (1 + e.val)) = ![256 * (peer c e).val, 0]) c e

/-! ## The buffers and the pieces of them that travel -/

abbrev xM : Memref sig .tc .vmem S1024x256 .f32 := Memref.whole cc0_stg0_0
abbrev wM : Memref sig .tc .vmem S1024x1024 .f32 := Memref.whole cc0_stg1_0
abbrev oM : Memref sig .tc .vmem S256x1024 .f32 := Memref.whole cc0_stg2_0
abbrev nM : Memref sig .tc .vmem S1024x256 .bf16 := Memref.whole cc0_scratch0
abbrev lM : Memref sig .tc .vmem S3x256x256 .bf16 := Memref.whole cc0_scratch1

/-- The narrowed rows that copy `e` of device `c` reads. -/
abbrev rowM (c : Dev nD) (e : Fin 3) : Memref sig .tc .vmem S256x256 .bf16 :=
  nM.slice (Rect.unit (s := S1024x256) (k0_off1 c (BitVec.ofNat 32 (1 + e.val))) S256x256.size (k0_off1_inb c e)) (fun _ => rfl)

theorem slot_inb (s : Fin 3) : ∀ a, (![s.val, 0, 0] : Fin 3 → Nat) a + S1x256x256.size a ≤ S3x256x256.size a := by
  revert s; decide

/-- Landing slot `s`. -/
abbrev slotR (s : Fin 3) : Rect S3x256x256 := Rect.unit (s := S3x256x256) ![s.val, 0, 0] S1x256x256.size (slot_inb s)
abbrev slotM (s : Fin 3) : Memref sig .tc .vmem S256x256 .bf16 :=
  (lM.slice (slotR s) (fun _ => rfl)).squeeze S256x256 squeezes_S1x256x256_S256x256

/-! ## The semaphores -/

/-- The barrier semaphore of collective 0, one per device and outside the launch's scope. -/
abbrev barS : Sem sig := (SemArray.scalar (sig.barrier 0 rfl) : Sems sig S_).sem

theorem sem_inb (s : Fin 3) : ∀ a, (![s.val] : Fin 1 → Nat) a + S1.size a ≤ S3.size a := by revert s; decide

abbrev sendS (s : Fin 3) : DmaSems sig S_ :=
  (cc0_scratch2.slice (Rect.unit (s := S3) ![s.val] S1.size (sem_inb s))).squeeze S_ squeezes_S1_S_
abbrev recvS (s : Fin 3) : DmaSems sig S_ :=
  (cc0_scratch3.slice (Rect.unit (s := S3) ![s.val] S1.size (sem_inb s))).squeeze S_ squeezes_S1_S_

abbrev barCell (c : Dev nD) : GSem nD τ sig := ((c : Thread nD τ), .reg barS)
abbrev sendCell (c : Dev nD) (s : Fin 3) : GSem nD τ sig := ((c : Thread nD τ), .dma (sendS s).sem)
abbrev recvCell (c : Dev nD) (s : Fin 3) : GSem nD τ sig := ((c : Thread nD τ), .dma (recvS s).sem)

/-- The six semaphores of a launch: three for sending, three for receiving; -/
abbrev osem : Fin 6 → SemLoc sig := fun
  | 0 => .dma (sendS 0).sem | 1 => .dma (sendS 1).sem | 2 => .dma (sendS 2).sem
  | 3 => .dma (recvS 0).sem | 4 => .dma (recvS 1).sem | 5 => .dma (recvS 2).sem
/-- and the seven the exchange runs on, the barrier first. -/
abbrev csem : Fin 7 → SemLoc sig := fun
  | 0 => .reg barS
  | 1 => .dma (sendS 0).sem | 2 => .dma (sendS 1).sem | 3 => .dma (sendS 2).sem
  | 4 => .dma (recvS 0).sem | 5 => .dma (recvS 1).sem | 6 => .dma (recvS 2).sem
abbrev kcell (ck : Dev nD × Fin 7) : GSem nD τ sig := ((ck.1 : Thread nD τ), csem ck.2)

/-- Where the send and the receive semaphores stand among the seven. -/
abbrev sIx : Fin 3 → Fin 7 := fun | 0 => 1 | 1 => 2 | 2 => 3
abbrev rIx : Fin 3 → Fin 7 := fun | 0 => 4 | 1 => 5 | 2 => 6

theorem kcell_send (c : Dev nD) (s : Fin 3) : kcell (c, sIx s) = sendCell c s := by fin_cases s <;> rfl
theorem kcell_recv (c : Dev nD) (s : Fin 3) : kcell (c, rIx s) = recvCell c s := by fin_cases s <;> rfl

theorem send_ne_bar (s : Fin 3) : (SemLoc.dma (sendS s).sem : SemLoc sig) ≠ .reg barS := fun h => by cases h
theorem recv_ne_bar (s : Fin 3) : (SemLoc.dma (recvS s).sem : SemLoc sig) ≠ .reg barS := fun h => by cases h
theorem send_ne_recv : ∀ s t : Fin 3, (SemLoc.dma (sendS s).sem : SemLoc sig) ≠ .dma (recvS t).sem := by decide
theorem recv_inj : ∀ s t : Fin 3, (SemLoc.dma (recvS s).sem : SemLoc sig) = .dma (recvS t).sem → s = t := by decide
theorem send_inj : ∀ s t : Fin 3, (SemLoc.dma (sendS s).sem : SemLoc sig) = .dma (sendS t).sem → s = t := by decide

/-- The credit of one block. -/
abbrev N : ℕ := (slotM 0).view.dmaCredit
theorem N_pos : 0 < N := View.dmaCredit_pos _ (by decide)
theorem credit_slot (s : Fin 3) : (slotM s).view.dmaCredit = N := rfl
theorem credit_row (c : Dev nD) (e : Fin 3) : (rowM c e).view.dmaCredit = N := rfl

/-! ## The buffers cut into their pieces -/

theorem blk_inb (b : Dev nD) : ∀ a, (![256 * b.val, 0] : Fin 2 → Nat) a + S256x256.size a ≤ S1024x256.size a := by
  revert b; decide

/-- The elements of row block `b`. -/
def rowSet (b : Dev nD) : Finset S1024x256.Idx := (Rect.unit (s := S1024x256) ![256 * b.val, 0] S256x256.size (blk_inb b)).set
/-- The elements of landing slot `s`. -/
def slotSet (s : Fin 3) : Finset S3x256x256.Idx := (slotR s).set

theorem rowSet_disjoint (b b' : Dev nD) (h : b ≠ b') : Disjoint (rowSet b) (rowSet b') :=
  Ring.lead_disjoint (s := S1024x256) (0 : Fin 2) 256 (fun b : Fin 4 => ![256 * b.val, 0]) S256x256.size blk_inb
    (fun _ => rfl) rfl b b' h
theorem rowSet_cover : Finset.univ.biUnion rowSet = Finset.univ :=
  Ring.lead_cover (s := S1024x256) (0 : Fin 2) 256 (fun b : Fin 4 => ![256 * b.val, 0]) S256x256.size blk_inb
    (fun _ => rfl) (by decide) rfl (by decide) rfl
theorem slotSet_disjoint (s s' : Fin 3) (h : s ≠ s') : Disjoint (slotSet s) (slotSet s') :=
  Ring.lead_disjoint (s := S3x256x256) (0 : Fin 3) 1 (fun s : Fin 3 => ![s.val, 0, 0]) S1x256x256.size slot_inb
    (fun b => (Nat.one_mul b.val).symm) rfl s s' h
theorem slotSet_cover : Finset.univ.biUnion slotSet = Finset.univ :=
  Ring.lead_cover (s := S3x256x256) (0 : Fin 3) 1 (fun s : Fin 3 => ![s.val, 0, 0]) S1x256x256.size slot_inb
    (fun b => (Nat.one_mul b.val).symm) (by decide) rfl (by decide) rfl

theorem slot_set (s : Fin 3) : (slotM s).view.set = slotSet s := by
  show ((lM.slice (slotR s) (fun _ => rfl)).view.reshape S256x256 squeezes_S1x256x256_S256x256.numel_eq).set = slotSet s
  rw [View.set_reshape]
  exact View.set_slice_whole cc0_scratch1 (slotR s)
theorem row_set (c : Dev nD) (e : Fin 3) : (rowM c e).view.set = rowSet (peer c e) := by
  refine (View.set_slice_whole cc0_scratch0 _).trans ?_
  unfold rowSet
  congr 1
  simp only [off1_eq]

end Cert.Exchange

end
-- ==== Proof.Schedule.lean ====
/-
# What each semaphore's payment hands over, and the order in which a device may wait

`xs c` is device `c`'s narrowed copy of its columns of `x`. A landing in slot `s` of `c` is known by what the slot then
reads as: the rows of block `c` of `xs (peer c s)`. The rest of the file is the payment table of `Cells` as a schedule
of one round, what each device owes at the start, and the levels: staging and send semaphores lowest, then the
barriers, then the receive semaphores.
-/
module

public import proofs.«01_k».proof.Proof.Cells

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exchange's own ghost state beside the pipeline's; a payment within a round is named by a distance. -/
abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Device `c`'s columns of `x`, as staged, -/
def xstg (c : Dev nD) : (cc0_stg0_0 : Ref sig .tc).ty.Contents (Elt F) :=
  (win0_0.blk (0 : Fin 1)).view.read (Elt F) ((s₀ m ρ).mem ((c : Thread nD τ).loc main_arg0))
/-- the whole of `w`, as staged, -/
def wstg (c : Dev nD) : (cc0_stg1_0 : Ref sig .tc).ty.Contents (Elt F) :=
  (win0_1.blk (0 : Fin 1)).view.read (Elt F) ((s₀ m ρ).mem ((c : Thread nD τ).loc main_arg1))
/-- and the narrowed columns. -/
def xs (c : Dev nD) : (cc0_scratch0 : Ref sig .tc).ty.Contents (Elt F) := k0_pay2 (xstg m ρ c)

/-- What copy `e` of device `c` carries. -/
def rows (c : Dev nD) (e : Fin 3) : S256x256.Idx → Elt F .bf16 := (rowM c e).view.read (Elt F) (xs m ρ c)

/-! ## Holding the pieces -/

/-- Rows `peer c e` of the narrowed copy of `c`, held at contents `f`. -/
def rowAt (c : Dev nD) (e : Fin 3) (f : Buf (Elt F) ((c : Thread nD τ).loc cc0_scratch0)) : sProp 𝕄 :=
  (rowM c e).view.loc (c : Thread nD τ) ↦[(rowM c e).view.set]{fullShare} f
/-- Landing slot `s` of `c`, held at contents `f`. -/
def slotAt (c : Dev nD) (s : Fin 3) (f : Buf (Elt F) ((c : Thread nD τ).loc cc0_scratch1)) : sProp 𝕄 :=
  (slotM s).view.loc (c : Thread nD τ) ↦[(slotM s).view.set]{fullShare} f
/-- The rows `c` keeps, which travel nowhere. -/
def keptAt (c : Dev nD) (f : Buf (Elt F) ((c : Thread nD τ).loc cc0_scratch0)) : sProp 𝕄 :=
  ((c : Thread nD τ).loc cc0_scratch0) ↦[rowSet c]{fullShare} f

instance rowAt_storable (c : Dev nD) (e : Fin 3) (f) : BI.Storable (upEmb : UEmb _ 𝕄) (rowAt (F := F) c e f) := by
  unfold rowAt; infer_instance
instance slotAt_storable (c : Dev nD) (s : Fin 3) (f) : BI.Storable (upEmb : UEmb _ 𝕄) (slotAt (F := F) c s f) := by
  unfold slotAt; infer_instance

theorem bigSep_devs (c : Dev nD) (Φ : Dev nD → sProp 𝕄) :
    bigSep Finset.univ Φ = iprop(Φ (peer c 0) ∗ Φ (peer c 1) ∗ Φ (peer c 2) ∗ Φ c) :=
  bigSep_univ_eq_bigSepL [peer c 0, peer c 1, peer c 2, c] (by revert c; decide) (by revert c; decide) Φ
theorem bigSep_three (Φ : Fin 3 → sProp 𝕄) : bigSep Finset.univ Φ = iprop(Φ 0 ∗ Φ 1 ∗ Φ 2) :=
  bigSep_univ_eq_bigSepL [0, 1, 2] (by decide) (by decide) Φ

/-- The narrowed copy is the three travelling row blocks and the kept one. -/
theorem narrow_cut (c : Dev nD) (f : Buf (Elt F) ((c : Thread nD τ).loc cc0_scratch0)) :
    (((c : Thread nD τ).loc cc0_scratch0) ↦{fullShare} f : sProp 𝕄)
      = iprop(rowAt c 0 f ∗ rowAt c 1 f ∗ rowAt c 2 f ∗ keptAt c f) := by
  rw [Ring.pointsTo_blocks (ℓ := (c : Thread nD τ).loc cc0_scratch0) rowSet rowSet_disjoint rowSet_cover f, bigSep_devs c]
  unfold rowAt keptAt
  rw [row_set, row_set, row_set]

/-- The landing buffer is its three slots, -/
theorem landing_cut (c : Dev nD) (f : Buf (Elt F) ((c : Thread nD τ).loc cc0_scratch1)) :
    (((c : Thread nD τ).loc cc0_scratch1) ↦{fullShare} f : sProp 𝕄) = iprop(slotAt c 0 f ∗ slotAt c 1 f ∗ slotAt c 2 f) := by
  rw [Ring.pointsTo_blocks (ℓ := (c : Thread nD τ).loc cc0_scratch1) slotSet slotSet_disjoint slotSet_cover f, bigSep_three]
  unfold slotAt
  rw [slot_set, slot_set, slot_set]

/-- and the three slots, whatever each holds, are the landing buffer again. -/
theorem landing_join (c : Dev nD) :
    iprop((∃ f, slotAt c 0 f) ∗ (∃ f, slotAt c 1 f) ∗ (∃ f, slotAt c 2 f))
      ⊢ (iprop(∃ g, ((c : Thread nD τ).loc cc0_scratch1) ↦{fullShare} g) : sProp 𝕄) := by
  iintro ⟨⟨%f, H0⟩, H1, H2⟩
  iapply (Ring.pointsTo_blocks_join_exists (ℓ := (c : Thread nD τ).loc cc0_scratch1) slotSet slotSet_disjoint slotSet_cover f)
  rw [bigSep_three]
  unfold slotAt
  rw [slot_set, slot_set, slot_set]
  isplitl [H0]; · iexists f; iexact H0
  isplitl [H1] <;> iassumption

/-! ## The payments -/

/-- `peer c d` lends `c` the slot `c` will fill, and shows that its receive semaphore there is at its first round. -/
def barPay (c : Dev nD) (d : Fin 3) : sProp 𝕄 :=
  iprop((∃ f, slotAt (peer c d) (op d) f) ∗ reached ER (recvCell (peer c d) (op d)) 0)
/-- Slot `s` of `c` with the rows of block `c` from `peer c s`. -/
def recvPay (c : Dev nD) (s : Fin 3) : sProp 𝕄 :=
  iprop(∃ g, ⌜(slotM s).view.read (Elt F) g = rows m ρ (peer c s) (op s)⌝ ∗ slotAt c s g)
/-- The rows that were copied out through slot `s`. -/
def sendPay (c : Dev nD) (s : Fin 3) : sProp 𝕄 := rowAt c (op s) (xs m ρ c)

/-- Which of the three a semaphore is, when it is one of `f 0`, `f 1`, `f 2`. -/
def which (f : Fin 3 → SemLoc sig) (l : SemLoc sig) : Option (Fin 3) :=
  if l = f 0 then some 0 else if l = f 1 then some 1 else if l = f 2 then some 2 else none

abbrev sLoc (s : Fin 3) : SemLoc sig := .dma (sendS s).sem
abbrev rLoc (s : Fin 3) : SemLoc sig := .dma (recvS s).sem

theorem which_send_send : ∀ s : Fin 3, which sLoc (sLoc s) = some s := by decide
theorem which_recv_recv : ∀ s : Fin 3, which rLoc (rLoc s) = some s := by decide
theorem which_send_recv : ∀ s : Fin 3, which sLoc (rLoc s) = none := by decide
theorem which_recv_send : ∀ s : Fin 3, which rLoc (sLoc s) = none := by decide
theorem which_recv_bar : which rLoc (.reg barS) = none := by decide

def payOf (c : Dev nD) (l : SemLoc sig) (d : Fin 3) : sProp 𝕄 :=
  if l = .reg barS then barPay c d
  else match which rLoc l with
    | some s => recvPay m ρ c s
    | none => match which sLoc l with
      | some s => sendPay m ρ c s
      | none => iprop(emp)

instance payOf_storable (c : Dev nD) (l : SemLoc sig) (d : Fin 3) : BI.Storable (upEmb : UEmb _ 𝕄) (payOf (F := F) m ρ c l d) := by
  unfold payOf barPay recvPay sendPay
  (repeat' split) <;> infer_instance

/-- One round. A barrier is paid one unit from each of the three distances; a send or receive semaphore one block's
    credit, under the name 0. -/
def rd : Rounds.Schedule (GSem nD τ sig) (Fin 3) 𝕄 where
  duties g r :=
    if r = 0 ∧ g.1.2 = .tc then
      (if g.2 = .reg barS then Finset.univ else if (which rLoc g.2).isSome ∨ (which sLoc g.2).isSome then {0} else ∅)
    else ∅
  unitless _ := False
  amount g _ _ := if g.2 = .reg barS then 1 else N
  payload g _ d := payOf m ρ g.1.1 g.2 d
  amount_pos g _ _ _ := by
    by_cases h : g.2 = .reg barS
    · rw [if_pos h]; exact Nat.one_pos
    · rw [if_neg h]; exact N_pos

instance rd_payload_storable (g : GSem nD τ sig) (r : ℕ) (d : Fin 3) :
    BI.Storable (upEmb : UEmb _ 𝕄) ((rd (F := F) m ρ).payload g r d) :=
  payOf_storable m ρ g.1.1 g.2 d

section Table
variable (c : Dev nD) (s : Fin 3)

theorem duties_bar : (rd (F := F) m ρ).duties (barCell c) 0 = Finset.univ := by
  dsimp only [rd]; rw [if_pos ⟨rfl, rfl⟩]; exact if_pos rfl
theorem duties_send : (rd (F := F) m ρ).duties (sendCell c s) 0 = {0} := by
  dsimp only [rd]; rw [if_pos ⟨rfl, rfl⟩, if_neg (send_ne_bar s), which_send_send]; exact if_pos (Or.inr rfl)
theorem duties_recv : (rd (F := F) m ρ).duties (recvCell c s) 0 = {0} := by
  dsimp only [rd]; rw [if_pos ⟨rfl, rfl⟩, if_neg (recv_ne_bar s), which_recv_recv]; exact if_pos (Or.inl rfl)
theorem duties_later (g : GSem nD τ sig) : ∀ r, 1 ≤ r → (rd (F := F) m ρ).duties g r = ∅ :=
  fun r hr => by dsimp only [rd]; exact if_neg fun h => by omega

theorem amount_bar (d : Fin 3) : (rd (F := F) m ρ).amount (barCell c) 0 d = 1 := by dsimp only [rd]; exact if_pos rfl
theorem amount_send (d : Fin 3) : (rd (F := F) m ρ).amount (sendCell c s) 0 d = N := by
  dsimp only [rd]; exact if_neg (send_ne_bar s)
theorem amount_recv (d : Fin 3) : (rd (F := F) m ρ).amount (recvCell c s) 0 d = N := by
  dsimp only [rd]; exact if_neg (recv_ne_bar s)

theorem expect_bar : (rd (F := F) m ρ).expect (barCell c) 0 = 3 := by
  unfold Schedule.expect Schedule.amountOf
  rw [duties_bar, Finset.sum_congr rfl fun d _ => amount_bar m ρ c d, Finset.sum_const, Finset.card_univ, Fintype.card_fin,
    smul_eq_mul]
theorem expect_send : (rd (F := F) m ρ).expect (sendCell c s) 0 = N := by
  unfold Schedule.expect Schedule.amountOf; rw [duties_send, Finset.sum_singleton, amount_send]
theorem expect_recv : (rd (F := F) m ρ).expect (recvCell c s) 0 = N := by
  unfold Schedule.expect Schedule.amountOf; rw [duties_recv, Finset.sum_singleton, amount_recv]

theorem payload_bar (d : Fin 3) : (rd (F := F) m ρ).payload (barCell c) 0 d = barPay c d := by
  show payOf m ρ c (.reg barS) d = _
  unfold payOf; exact if_pos rfl
theorem payload_send (d : Fin 3) : (rd (F := F) m ρ).payload (sendCell c s) 0 d = sendPay m ρ c s := by
  show payOf m ρ c (sLoc s) d = _
  unfold payOf; rw [if_neg (send_ne_bar s), which_recv_send, which_send_send]
theorem payload_recv (d : Fin 3) : (rd (F := F) m ρ).payload (recvCell c s) 0 d = recvPay m ρ c s := by
  show payOf m ρ c (rLoc s) d = _
  unfold payOf; rw [if_neg (recv_ne_bar s), which_recv_recv]

/-- A round in which nothing is taken yet, as the payments still to come. -/
theorem rest_bar :
    bigSep ((rd (F := F) m ρ).duties (barCell c) 0 \ ∅) (fun d => (rd (F := F) m ρ).payload (barCell c) 0 d)
      = iprop(barPay c 0 ∗ barPay c 1 ∗ barPay c 2) := by
  rw [Finset.sdiff_empty, duties_bar, bigSep_three, payload_bar, payload_bar, payload_bar]
theorem rest_send :
    bigSep ((rd (F := F) m ρ).duties (sendCell c s) 0 \ ∅) (fun d => (rd (F := F) m ρ).payload (sendCell c s) 0 d) = sendPay m ρ c s := by
  rw [Finset.sdiff_empty, duties_send, bigSep_singleton, payload_send]
theorem rest_recv :
    bigSep ((rd (F := F) m ρ).duties (recvCell c s) 0 \ ∅) (fun d => (rd (F := F) m ρ).payload (recvCell c s) 0 d) = recvPay m ρ c s := by
  rw [Finset.sdiff_empty, duties_recv, bigSep_singleton, payload_recv]

end Table

/-! ## What a device owes, and the levels -/

/-- The credit owed to the receive semaphore that copy `e` completes, and the unit owed to the barrier `e + 1` places on. -/
def owesR (c : Dev nD) (e : Fin 3) : CellTallies nD τ sig Unit := tallyAt (recvCell (peer c e) (op e)) () N
def owesB (c : Dev nD) (e : Fin 3) : CellTallies nD τ sig Unit := tallyAt (barCell (peer c e)) () 1

/-- Summed in the order of payment, the first to be paid last. -/
def O₀ (c : Dev nD) : CellTallies nD τ sig Unit :=
  owesR c 2 + owesR c 1 + owesR c 0 + owesB c 2 + owesB c 1 + owesB c 0

def L (g : GSem nD τ sig) : Finset Unit := if g.1.2 = .tc then {()} else ∅
def lv (g : GSem nD τ sig) (_ : Unit) : ℕ :=
  if g.2 = .reg barS then 1 else if (which rLoc g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_recv (c : Dev nD) (s : Fin 3) (u : Unit) : lv (recvCell c s) u = 2 := by
  unfold lv; rw [if_neg (recv_ne_bar s), which_recv_recv]; rfl

theorem owesR_pos {c : Dev nD} {e : Fin 3} {g : GSem nD τ sig} {u : Unit} (h : owesR c e g u ≠ 0) : g = recvCell (peer c e) (op e) := by
  unfold owesR at h
  rw [tallyAt_apply] at h
  by_contra hn
  exact h (if_neg fun h' => hn h'.1)
theorem owesB_pos {c : Dev nD} {e : Fin 3} {g : GSem nD τ sig} {u : Unit} (h : owesB c e g u ≠ 0) : g = barCell (peer c e) := by
  unfold owesB at h
  rw [tallyAt_apply] at h
  by_contra hn
  exact h (if_neg fun h' => hn h'.1)

/-- After its signals a device owes receive credits only; -/
theorem owing_copies {c : Dev nD} {g : GSem nD τ sig} {u : Unit} (h : 0 < (owesR c 2 + owesR c 1 + owesR c 0) g u) :
    ∃ e, g = recvCell (peer c e) (op e) := by
  simp only [Pi.add_apply, Finsupp.add_apply] at h
  by_cases h2 : owesR c 2 g u = 0
  · by_cases h1 : owesR c 1 g u = 0
    · exact ⟨0, owesR_pos (u := u) (by omega)⟩
    · exact ⟨1, owesR_pos h1⟩
  · exact ⟨2, owesR_pos h2⟩

/-- at the start, barrier units too. -/
theorem owing_start {c : Dev nD} {g : GSem nD τ sig} {u : Unit} (h : 0 < O₀ c g u) :
    (∃ e, g = recvCell (peer c e) (op e)) ∨ ∃ e, g = barCell (peer c e) := by
  unfold O₀ at h
  rw [Pi.add_apply, Finsupp.add_apply, Pi.add_apply, Finsupp.add_apply, Pi.add_apply, Finsupp.add_apply] at h
  by_cases h2 : owesB c 2 g u = 0
  · by_cases h1 : owesB c 1 g u = 0
    · by_cases h0 : owesB c 0 g u = 0
      · exact .inl (owing_copies (u := u) (by omega))
      · exact .inr ⟨0, owesB_pos h0⟩
    · exact .inr ⟨1, owesB_pos h1⟩
  · exact .inr ⟨2, owesB_pos h2⟩

theorem mayWait_stage (c : Dev nD) (q : DmaSem sig) (hq : which rLoc (.dma q) = none) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by rcases owing_start hg with ⟨e, rfl⟩ | ⟨e, rfl⟩ <;> exact Finset.mem_singleton_self _)
      (fun p hp => by
        rw [Finset.mem_singleton.mp hp]; dsimp only [lv]
        rw [if_neg (fun h => by cases h), hq]; exact Nat.le_refl 0)
      (fun g u hg => by
        rcases owing_start hg with ⟨e, rfl⟩ | ⟨e, rfl⟩
        · rw [lv_recv]; decide
        · rw [lv_bar]; decide)
  · rw [MayWait_zero]; iintro -; iempintro

theorem mayWait_bar (c : Dev nD) :
    (levAts L lv : sProp 𝕄) ⊢ MayWait (c : Thread nD τ) (.reg barS) () (owesR c 2 + owesR c 1 + owesR c 0) :=
  MayOwe.of_cut (L := L) (lev := lv) 1
    (fun p hp => by rw [Finset.mem_singleton.mp hp, L_tc]; exact Finset.mem_singleton_self _)
    (fun g u hg => by obtain ⟨e, rfl⟩ := owing_copies hg; exact Finset.mem_singleton_self _)
    (fun p hp => by rw [Finset.mem_singleton.mp hp, lv_bar])
    (fun g u hg => by obtain ⟨e, rfl⟩ := owing_copies hg; rw [lv_recv]; decide)

end Cert.Exchange

end
-- ==== Proof.Body.lean ====
/-
# One device's run of the kernel

`outAt c` is what device `c` leaves in its result: its own product, the three products of the rows it was sent, and
the sigmoid weighting of their sum. The steps that talk to another device (a signal, a copy, the two kinds of wait) are
stated once each.
-/
module

public import proofs.«01_k».proof.Proof.Schedule

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

/-- A running sum and one more block product. -/
def addPart (acc : FVec F S256x1024 .f32) (b : FVec F S256x256 .bf16) (w : Vec F S256x1024 .f32) : FVec F S256x1024 .f32 :=
  addf acc (matmul dot_S256x256_S256x1024_S256x1024_1_0_0_1_n_n none (extf .f32 b bitsLt_bf16_f32)
    (shapeCast S256x1024 w shapeCasts_S256x1024_S256x1024 : FVec F S256x1024 .f32) (constant S256x1024 .f32 0x00000000#32))

/-- The rows of `x` and of `w` of `c`'s own block, -/
def xown (c : Dev nD) : Vec F S256x256 .f32 :=
  xM.view.readAt (Elt F) (Rect.unit (s := S1024x256) (k0_off2 c) S256x256.size (k0_off2_inb c)).toLoadRect (xstg m ρ c)
def wown (c : Dev nD) : Vec F S256x1024 .f32 :=
  wM.view.readAt (Elt F) (Rect.unit (s := S1024x1024) (k0_off3 c) S256x1024.size (k0_off3_inb c)).toLoadRect (wstg m ρ c)
/-- and the rows of `w` of block `peer c e`. -/
def wrow (c : Dev nD) (e : Fin 3) : Vec F S256x1024 .f32 :=
  wM.view.readAt (Elt F)
    (Rect.unit (s := S1024x1024) (k0_off4 c (BitVec.ofNat 32 (1 + e.val))) S256x1024.size (k0_off4_inb c e)).toLoadRect (wstg m ρ c)

/-- The four products summed, in the kernel's order, -/
def sumAt (c : Dev nD) : FVec F S256x1024 .f32 :=
  addPart (addPart (addPart (k0_pay3 (xown m ρ c) (wown m ρ c)) (rows m ρ (peer c 0) (op 0)) (wrow m ρ c 0))
    (rows m ρ (peer c 2) (op 2)) (wrow m ρ c 2)) (rows m ρ (peer c 1) (op 1)) (wrow m ρ c 1)

/-- and the sum times its sigmoid. -/
def outAt (c : Dev nD) : (cc0_stg2_0 : Ref sig .tc).ty.Contents (Elt F) := mulf (sumAt m ρ c) (logistic (sumAt m ρ c))

/-- What the kernel stores, read off the three landing slots, is that result. -/
theorem stored_eq (c : Dev nD) (g0 g1 g2 : (cc0_scratch1 : Ref sig .tc).ty.Contents (Elt F))
    (h0 : (slotM 0).view.read (Elt F) g0 = rows m ρ (peer c 0) (op 0))
    (h1 : (slotM 1).view.read (Elt F) g1 = rows m ρ (peer c 1) (op 1))
    (h2 : (slotM 2).view.read (Elt F) g2 = rows m ρ (peer c 2) (op 2)) :
    k0_pay1 (k0_pay5 (k0_pay4 (k0_pay3 (xown m ρ c) (wown m ρ c)) ((lM.access (slotR 0)).read (Elt F) g0) (wrow m ρ c 0))
        ((lM.access (slotR 2)).read (Elt F) g2) (wrow m ρ c 2))
      (k0_pay6 ((lM.access (slotR 1)).read (Elt F) g1)) (wrow m ρ c 1) = outAt m ρ c := by
  unfold outAt sumAt
  rw [← h0, ← h1, ← h2]
  rfl

/-! ## The ghost state and the pipeline's proof data -/

/-- The invariants device `c` opens: its own seven semaphores', the three other barriers', and the receive semaphores
    its copies complete. -/
def invs (K : Dev nD × Fin 7 → ℕ) (c : Dev nD) : sProp 𝕄 :=
  iprop(cellInv ER (rd m ρ) (K (c, 0)) (barCell c)
    ∗ (cellInv ER (rd m ρ) (K (c, sIx 0)) (sendCell c 0) ∗ cellInv ER (rd m ρ) (K (c, sIx 1)) (sendCell c 1)
      ∗ cellInv ER (rd m ρ) (K (c, sIx 2)) (sendCell c 2))
    ∗ (cellInv ER (rd m ρ) (K (c, rIx 0)) (recvCell c 0) ∗ cellInv ER (rd m ρ) (K (c, rIx 1)) (recvCell c 1)
      ∗ cellInv ER (rd m ρ) (K (c, rIx 2)) (recvCell c 2))
    ∗ (cellInv ER (rd m ρ) (K (peer c 0, 0)) (barCell (peer c 0)) ∗ cellInv ER (rd m ρ) (K (peer c 1, 0)) (barCell (peer c 1))
      ∗ cellInv ER (rd m ρ) (K (peer c 2, 0)) (barCell (peer c 2)))
    ∗ cellInv ER (rd m ρ) (K (peer c 0, rIx 2)) (recvCell (peer c 0) 2)
    ∗ cellInv ER (rd m ρ) (K (peer c 1, rIx 1)) (recvCell (peer c 1) 1)
    ∗ cellInv ER (rd m ρ) (K (peer c 2, rIx 0)) (recvCell (peer c 2) 0))

instance invs_persistent (K : Dev nD × Fin 7 → ℕ) (c : Dev nD) : BI.Persistent (invs m ρ K c) := by unfold invs; infer_instance

/-- Where device `c` stands in each of its semaphores' rounds. -/
def places (c : Dev nD) : sProp 𝕄 :=
  iprop(atPos ER (barCell c) 0 ∅ 0
    ∗ (atPos ER (sendCell c 0) 0 ∅ 0 ∗ atPos ER (sendCell c 1) 0 ∅ 0 ∗ atPos ER (sendCell c 2) 0 ∅ 0)
    ∗ atPos ER (recvCell c 0) 0 ∅ 0 ∗ atPos ER (recvCell c 1) 0 ∅ 0 ∗ atPos ER (recvCell c 2) 0 ∅ 0)

/-- That the barriers it signals, and its own send and receive semaphores, are at their first round. -/
def marks (c : Dev nD) : sProp 𝕄 :=
  iprop((reached ER (barCell (peer c 0)) 0 ∗ reached ER (barCell (peer c 1)) 0 ∗ reached ER (barCell (peer c 2)) 0)
    ∗ (reached ER (sendCell c 0) 0 ∗ reached ER (sendCell c 1) 0 ∗ reached ER (sendCell c 2) 0)
    ∗ reached ER (recvCell c 0) 0 ∗ reached ER (recvCell c 1) 0 ∗ reached ER (recvCell c 2) 0)

instance marks_persistent (c : Dev nD) : BI.Persistent (marks (F := F) c) := by unfold marks; infer_instance

/-- The payments it is entitled to make: to the other barriers, to the receive semaphores of its copies, to its own
    send semaphores. -/
def payToks (c : Dev nD) : sProp 𝕄 :=
  iprop((dutyTok ER (barCell (peer c 0)) 0 2 ∗ dutyTok ER (barCell (peer c 1)) 0 1 ∗ dutyTok ER (barCell (peer c 2)) 0 0)
    ∗ (dutyTok ER (recvCell (peer c 0) 2) 0 0 ∗ dutyTok ER (recvCell (peer c 1) 1) 0 0
      ∗ dutyTok ER (recvCell (peer c 2) 0) 0 0)
    ∗ dutyTok ER (sendCell c 0) 0 0 ∗ dutyTok ER (sendCell c 1) 0 0 ∗ dutyTok ER (sendCell c 2) 0 0)

def ghost (K : Dev nD × Fin 7 → ℕ) (c : Dev nD) : sProp 𝕄 := iprop(invs m ρ K c ∗ places c ∗ marks c ∗ payToks c)

/-- The credit it will spend on its waits for others. -/
def creds (c : Dev nD) : sProp 𝕄 :=
  iprop(cred (tallyAt (barCell c) () 3) ∗ cred (tallyAt (recvCell c 0) () N) ∗ cred (tallyAt (recvCell c 1) () N)
    ∗ cred (tallyAt (recvCell c 2) () N))

def start (c : Dev nD) : sProp 𝕄 := iprop((∃ K, ghost m ρ K c) ∗ creds c ∗ levAts L lv)

/-- The two scratch buffers, whole, at any contents. -/
def scratch (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)

/-- The seven semaphores at zero. -/
def zeros (c : Dev nD) : sProp 𝕄 :=
  iprop(semVal (barCell c) 0 ∗ (semVal (sendCell c 0) 0 ∗ semVal (sendCell c 1) 0 ∗ semVal (sendCell c 2) 0)
    ∗ semVal (recvCell c 0) 0 ∗ semVal (recvCell c 1) 0 ∗ semVal (recvCell c 2) 0)

def Φ₀ (c : Dev nD) : sProp 𝕄 := iprop(start m ρ c ∗ scratch c)
def Φ₁ (c : Dev nD) : sProp 𝕄 := iprop(scratch c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => wstg m ρ c
    | ⟨2, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem fetch_x (t : Fin cfg0.N) : (cfg0.win (0 : Fin 3)).fetch t = true := by rw [fin_N t]; rfl
theorem fetch_w (t : Fin cfg0.N) : (cfg0.win (1 : Fin 3)).fetch t = true := by rw [fin_N t]; rfl

theorem bigSep_W (Φ : Fin cfg0.W → sProp 𝕄) : bigSep Finset.univ Φ = iprop(Φ (0 : Fin 3) ∗ Φ (1 : Fin 3) ∗ Φ (2 : Fin 3)) :=
  bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The steps that involve another device -/

section Steps

variable (K : Dev nD × Fin 7 → ℕ) (c : Dev nD)

/-- The signal to the barrier `e + 1` places on, which lends slot `e` to that device. -/
theorem wp_signal_peer {α : Type} {Q : α → sProp 𝕄} (e s : Fin 3) (hs : op e = s) (n : Dev nD) (hn : n = peer c e) {i : ℤ} (hi : i = ((1 : ℕ) : ℤ))
    {k : PUnit → Prog (TpuEff nD τ sig (Elt F) Λ₀ .tc) α}
    (f : Buf (Elt F) ((c : Thread nD τ).loc cc0_scratch1)) (O : CellTallies nD τ sig Unit) (W : Waits sig Unit) :
    iprop(cellInv ER (rd m ρ) (K (peer c e, 0)) (barCell (peer c e)) ∗ owes (c : Thread nD τ) (O + owesB c e) W
        ∗ dutyTok ER (barCell (peer c e)) 0 s ∗ slotAt c e f ∗ reached ER (recvCell c e) 0 ∗ reached ER (barCell (peer c e)) 0)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS i) k) Q) := by
  subst hn hi hs
  iintro ⟨HI, HO, Ht, Hf, Hv, Hr⟩
  iapply (Rounds.wp_signal 𝒱₀ ER (rd m ρ) (c : Thread nD τ) none (dst := (peer c e : Thread nD τ)) (κ := K (peer c e, 0))
      (d := op e) (by rw [duties_bar]; exact Finset.mem_univ _) (amount_bar m ρ (peer c e) (op e)) () (O₀ := O + owesB c e) O rfl)
  isplitl [HI]; · iexact HI
  isplitl [HO]; · iexact HO
  isplitl [Ht]; · iexact Ht
  isplitl [Hf Hv]
  · rw [payload_bar]; unfold barPay; rw [peer_op, op_op]
    isplitl [Hf]; · iexists f; iexact Hf
    iexact Hv
  iexact Hr

/-- Copy `e`: the rows of block `peer c e` into slot `op e` of `peer c e`. -/
theorem wp_copy {α : Type} {Q : α → sProp 𝕄} (e s : Fin 3) (hs : op e = s) (n : Dev nD) (hn : n = peer c e)
    {hsc : (slotM s : Memref sig (Dev.tc n : Thread nD τ).2.kind .vmem S256x256 .bf16).view.ref.isScScratch = false}
    {hsrc : (rowM c e).view.WordExact} {hdst : (slotM s).view.WordExact}
    {hsem : DmaTarget.Typed .vmem (rLoc s) (.remote (Dev.tc n : Thread nD τ) (slotM s) (sLoc s) hsc)}
    {k : PUnit → Prog (TpuEff nD τ sig (Elt F) Λ₀ .tc) α}
    (f : Buf (Elt F) ((peer c e : Thread nD τ).loc cc0_scratch1)) (O : CellTallies nD τ sig Unit) (W : Waits sig Unit) :
    iprop(cellInv ER (rd m ρ) (K (c, sIx s)) (sendCell c s)
        ∗ cellInv ER (rd m ρ) (K (peer c e, rIx s)) (recvCell (peer c e) s)
        ∗ rowAt c e (xs m ρ c) ∗ slotAt (peer c e) s f ∗ owes (c : Thread nD τ) (O + owesR c e) W
        ∗ dutyTok ER (sendCell c s) 0 0 ∗ reached ER (sendCell c s) 0
        ∗ dutyTok ER (recvCell (peer c e) s) 0 0 ∗ reached ER (recvCell (peer c e) s) 0)
      ⊢ iprop(((cred (tallyAt (sendCell c s) () N) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c e) (.remote (Dev.tc n : Thread nD τ) (slotM s) (sLoc s) hsc) (rLoc s) hsrc hdst hsem) k) Q) := by
  subst hn hs
  unfold rowAt slotAt
  exact Rounds.wp_send_pointsTo 𝒱₀ ER (rd m ρ) (c : Thread nD τ) none (κ₁ := K (c, sIx (op e))) (κ₂ := K (peer c e, rIx (op e)))
    (c' := (peer c e : Thread nD τ)) (src := rowM c e) (dst := slotM (op e)) (sS := sLoc (op e)) (sem := rLoc (op e))
    (r₁ := 0) (r₂ := 0) (d₁ := 0) (d₂ := 0) (fd := f)
    (by rw [duties_send]; exact Finset.mem_singleton_self _) (by rw [duties_recv]; exact Finset.mem_singleton_self _)
    () () N (credit_slot (op e)) (amount_send m ρ c (op e) 0) (amount_recv m ρ (peer c e) (op e) 0) (O₀ := O + owesR c e) O rfl (W := W)
    (by rw [payload_send]; unfold sendPay rowAt; rw [op_op])
    (by
      rw [payload_recv]; unfold recvPay slotAt; rw [peer_op, op_op]
      iintro H
      iexists (slotM (op e)).view.write (Elt F) f ((rowM c e).view.read (Elt F) (xs m ρ c)) Finset.univ
      isplitr
      · ipureintro; exact View.read_write_univ _ _
      · iexact H)

/-- What the barrier wait brings: the slots `c` fills, each with its receive semaphore at its first round. -/
def lent (c : Dev nD) : sProp 𝕄 :=
  iprop(((∃ f, slotAt (peer c 0) 2 f) ∗ reached ER (recvCell (peer c 0) 2) 0)
    ∗ ((∃ f, slotAt (peer c 1) 1 f) ∗ reached ER (recvCell (peer c 1) 1) 0)
    ∗ (∃ f, slotAt (peer c 2) 0 f) ∗ reached ER (recvCell (peer c 2) 0) 0)

theorem lent_eq (c : Dev nD) : iprop(barPay c 0 ∗ barPay c 1 ∗ barPay c 2) = (lent c : sProp 𝕄) := rfl

/-- The wait on its own barrier. -/
theorem wp_wait_bar {α : Type} {Q : α → sProp 𝕄} {i : ℤ} (hi : i = ((3 : ℕ) : ℤ)) {k : PUnit → Prog (TpuEff nD τ sig (Elt F) Λ₀ .tc) α} (W : Waits sig Unit) :
    iprop(cellInv ER (rd m ρ) (K (c, 0)) (barCell c) ∗ cred (tallyAt (barCell c) () 3)
        ∗ owes (c : Thread nD τ) (owesR c 2 + owesR c 1 + owesR c 0) W ∗ levAts L lv ∗ atPos ER (barCell c) 0 ∅ 0)
      ⊢ iprop(((owes (c : Thread nD τ) (owesR c 2 + owesR c 1 + owesR c 0) (insert (SemLoc.reg barS, ()) W)
            ∗ atPos ER (barCell c) (0 + 1) ∅ 0 ∗ lent c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS i) k) Q) := by
  subst hi
  iintro ⟨HI, Hc, HO, Hl, Hat⟩ Hk
  iapply (Rounds.wp_wait_rest_token 𝒱₀ ER (rd m ρ) (c : Thread nD τ) none (κ := K (c, 0))
      (wpE_semWait_eq 𝒱₀ (c : Thread nD τ) none Set.univ) (Set.mem_univ _) () (O := owesR c 2 + owesR c 1 + owesR c 0) (W := W)
      (R := 0) (m := 0) (T := ∅) (by rw [expect_bar])) $$ [HI Hc HO Hl Hat]
  · isplitl [HI]; · iexact HI
    isplitl [Hc]; · iexact Hc
    isplitl [HO]; · iexact HO
    isplitl [Hl]; · iapply (mayWait_bar c); iexact Hl
    iexact Hat
  iintro ⟨HO, Hat, -, Hpay⟩
  ihave Hp := (Entails.of_eq ((rest_bar m ρ c).trans (lent_eq c))) $$ Hpay
  iapply Hk
  isplitl [HO]; · iexact HO
  isplitl [Hat] <;> iassumption

/-- The wait for the landing in slot `s`, once nothing is owed. -/
theorem wp_wait_recv {α : Type} {Q : α → sProp 𝕄} (s : Fin 3) (src : Memref sig .tc .vmem S256x256 .bf16)
    {h1 : src.view.WordExact} {h2 : (slotM s).view.WordExact}
    {k : PUnit → Prog (TpuEff nD τ sig (Elt F) Λ₀ .tc) α} (W : Waits sig Unit) :
    iprop(cellInv ER (rd m ρ) (K (c, rIx s)) (recvCell c s) ∗ cred (tallyAt (recvCell c s) () N)
        ∗ owes (c : Thread nD τ) 0 W ∗ atPos ER (recvCell c s) 0 ∅ 0)
      ⊢ iprop(((owes (c : Thread nD τ) 0 (insert (rLoc s, ()) W) ∗ atPos ER (recvCell c s) (0 + 1) ∅ 0 ∗ recvPay m ρ c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS s).sem src (slotM s) h1 h2) k) Q) := by
  iintro ⟨HI, Hc, HO, Hat⟩ Hk
  iapply (Rounds.wp_wait_rest_token 𝒱₀ ER (rd m ρ) (c : Thread nD τ) none (κ := K (c, rIx s))
      (wpE_waitDma2_eq 𝒱₀ (c : Thread nD τ) none Set.univ) (Set.mem_univ _) () (O := 0) (W := W)
      (R := 0) (m := 0) (T := ∅) (by rw [Nat.zero_add, expect_recv])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m ρ c s)) $$ Hpay
  iapply Hk
  isplitl [HO]; · iexact HO
  isplitl [Hat] <;> iassumption

/-- The wait for its own copy through slot `s` to have left. -/
theorem wp_wait_send {α : Type} {Q : α → sProp 𝕄} (s : Fin 3) (src dst : Memref sig .tc .vmem S256x256 .bf16) (hdst : dst.view.dmaCredit = N)
    {h1 : src.view.WordExact} {h2 : dst.view.WordExact}
    {k : PUnit → Prog (TpuEff nD τ sig (Elt F) Λ₀ .tc) α} (W : Waits sig Unit) :
    iprop(cellInv ER (rd m ρ) (K (c, sIx s)) (sendCell c s) ∗ cred (tallyAt (sendCell c s) () N)
        ∗ owes (c : Thread nD τ) 0 W ∗ atPos ER (sendCell c s) 0 ∅ 0)
      ⊢ iprop(((owes (c : Thread nD τ) 0 (insert (sLoc s, ()) W) ∗ atPos ER (sendCell c s) (0 + 1) ∅ 0 ∗ sendPay m ρ c s)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS s).sem src dst h1 h2) k) Q) := by
  rw [← hdst]
  iintro ⟨HI, Hc, HO, Hat⟩ Hk
  iapply (Rounds.wp_wait_rest_token 𝒱₀ ER (rd m ρ) (c : Thread nD τ) none (κ := K (c, sIx s))
      (wpE_waitDma2_eq 𝒱₀ (c : Thread nD τ) none Set.univ) (Set.mem_univ _) () (O := 0) (W := W)
      (R := 0) (m := 0) (T := ∅) (by rw [Nat.zero_add, expect_send, hdst])) $$ [HI Hc HO Hat]
  · isplitl [HI]; · iexact HI
    isplitl [Hc]; · iexact Hc
    isplitl [HO]; · iexact HO
    isplitr; · rw [MayWait_zero]; iempintro
    iexact Hat
  iintro ⟨HO, Hat, -, Hpay⟩
  ihave Hp := (Entails.of_eq (rest_send m ρ c s)) $$ Hpay
  iapply Hk
  isplitl [HO]; · iexact HO
  isplitl [Hat] <;> iassumption

/-- A load of landing slot `s`. -/
theorem wp_load_slot {α : Type} {Q : α → sProp 𝕄} (s : Fin 3) (g : Buf (Elt F) ((c : Thread nD τ).loc cc0_scratch1))
    {hl : lM.view.LoadsAt (slotR s).toLoadRect} {k : ((slotR s).shape.Idx → Elt F .bf16) → Prog (TpuEff nD τ sig (Elt F) Λ₀ .tc) α} :
    slotAt c s g
      ⊢ iprop((slotAt c s g -∗ wp frame (wpE (defs₀ (F := F)) 𝒱₀ (c : Thread nD τ) none) Set.univ (k ((lM.access (slotR s)).read (Elt F) g)) Q)
          -∗ wp frame (wpE (defs₀ (F := F)) 𝒱₀ (c : Thread nD τ) none) Set.univ (.op (.load lM (slotR s).toLoadRect hl) k) Q) := by
  unfold slotAt
  exact wp_load_rect 𝒱₀ (c : Thread nD τ) none Set.univ (m := lM) (r := slotR s)
    (by rw [slot_set]; exact (View.set_slice_whole cc0_scratch1 (slotR s)).subset)

end Steps

end Cert.Exchange

end
-- ==== Proof.Device.lean ====
/-
# The kernel on one device, followed operation by operation

From its ghost state, credit, scratch buffers and staged arguments, the kernel on device `c` reaches a state with its
result computed, its seven semaphores back at zero, and both scratch buffers whole again.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

theorem hz : (![0, 0] : Fin 2 → Nat) = fun _ => 0 := funext fun a => by fin_cases a <;> rfl

abbrev nR : Rect S1024x256 := Rect.unit (s := S1024x256) ![0, 0] S1024x256.size inb_S1024x256_S1024x256_0_0
abbrev oR : Rect S256x1024 := Rect.unit (s := S256x1024) ![0, 0] S256x1024.size inb_S256x1024_S256x1024_0_0

theorem read_x (f : (cc0_stg0_0 : Ref sig .tc).ty.Contents (Elt F)) : xM.view.readAt (Elt F) nR.toLoadRect f = f :=
  Memref.readAt_unit_zero (Elt F) cc0_stg0_0 hz _ f
theorem write_narrow (f w : (cc0_scratch0 : Ref sig .tc).ty.Contents (Elt F)) :
    (nM.access nR : View sig .tc _ _ _).write (Elt F) f w Finset.univ = w :=
  Memref.write_access_unit_zero_univ (Elt F) cc0_scratch0 hz _ f w
theorem write_out (f w : (cc0_stg2_0 : Ref sig .tc).ty.Contents (Elt F)) :
    (oM.access oR : View sig .tc _ _ _).write (Elt F) f w Finset.univ = w :=
  Memref.write_access_unit_zero_univ (Elt F) cc0_stg2_0 hz _ f w

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ creds c ∗ levAts L lv ∗ scratch c)
    ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

def bodyPost (c : Dev nD) : sProp 𝕄 :=
  iprop(Φ₁ c ∗ (dats m ρ 0 c).owesAt () t₀.succ ∗ stg c cc0_stg0_0 (xstg m ρ c) ∗ stg c cc0_stg1_0 (wstg m ρ c)
    ∗ stg c cc0_stg2_0 (outAt m ρ c))

/-- The seven semaphores, every wait done, are closed and stand at zero. -/
theorem close_all (c : Dev nD) :
    iprop(invs m ρ K c ∗ atPos ER (barCell c) (0 + 1) ∅ 0
        ∗ (atPos ER (sendCell c 0) (0 + 1) ∅ 0 ∗ atPos ER (sendCell c 1) (0 + 1) ∅ 0 ∗ atPos ER (sendCell c 2) (0 + 1) ∅ 0)
        ∗ atPos ER (recvCell c 0) (0 + 1) ∅ 0 ∗ atPos ER (recvCell c 1) (0 + 1) ∅ 0 ∗ atPos ER (recvCell c 2) (0 + 1) ∅ 0)
      ⊢ (|={Set.univ}=> zeros c : sProp 𝕄) := by
  unfold invs
  iintro ⟨⟨#Ib, ⟨#Is0, #Is1, #Is2⟩, ⟨#Ir0, #Ir1, #Ir2⟩, -, -⟩, Ab, ⟨As0, As1, As2⟩, Ar0, Ar1, Ar2⟩
  imod (Rounds.cell_close ER (rd m ρ) (Set.mem_univ (K (c, 0))) (fun h => h) (R := 0 + 1) (duties_later m ρ (barCell c))) $$ [Ab] with Zb
  · isplitr; · iexact Ib
    iexact Ab
  imod (Rounds.cell_close ER (rd m ρ) (Set.mem_univ (K (c, sIx 0))) (fun h => h) (R := 0 + 1) (duties_later m ρ (sendCell c 0))) $$ [As0] with Zs0
  · isplitr; · iexact Is0
    iexact As0
  imod (Rounds.cell_close ER (rd m ρ) (Set.mem_univ (K (c, sIx 1))) (fun h => h) (R := 0 + 1) (duties_later m ρ (sendCell c 1))) $$ [As1] with Zs1
  · isplitr; · iexact Is1
    iexact As1
  imod (Rounds.cell_close ER (rd m ρ) (Set.mem_univ (K (c, sIx 2))) (fun h => h) (R := 0 + 1) (duties_later m ρ (sendCell c 2))) $$ [As2] with Zs2
  · isplitr; · iexact Is2
    iexact As2
  imod (Rounds.cell_close ER (rd m ρ) (Set.mem_univ (K (c, rIx 0))) (fun h => h) (R := 0 + 1) (duties_later m ρ (recvCell c 0))) $$ [Ar0] with Zr0
  · isplitr; · iexact Ir0
    iexact Ar0
  imod (Rounds.cell_close ER (rd m ρ) (Set.mem_univ (K (c, rIx 1))) (fun h => h) (R := 0 + 1) (duties_later m ρ (recvCell c 1))) $$ [Ar1] with Zr1
  · isplitr; · iexact Ir1
    iexact Ar1
  imod (Rounds.cell_close ER (rd m ρ) (Set.mem_univ (K (c, rIx 2))) (fun h => h) (R := 0 + 1) (duties_later m ρ (recvCell c 2))) $$ [Ar2] with Zr2
  · isplitr; · iexact Ir2
    iexact Ar2
  imodintro
  unfold zeros
  isplitl [Zb]; · iexact Zb
  isplitl [Zs0 Zs1 Zs2]
  · isplitl [Zs0]; · iexact Zs0
    isplitl [Zs1] <;> iassumption
  isplitl [Zr0]; · iexact Zr0
  isplitl [Zr1] <;> iassumption

set_option maxHeartbeats 1600000 in
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_scratch0) (Memref.isWhole_whole _)
            (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  simp only [semSignalWord, semWaitWord, Prog.lift, Prog.bind_op, Prog.bind_ret, Prog.pure_eq_ret, wp_deviceId]
  unfold bodyPre ghost places marks payToks creds scratch
  iintro ⟨⟨⟨⟨#HI, ⟨Ab, ⟨As0, As1, As2⟩, Ar0, Ar1, Ar2⟩, ⟨⟨#Mb0, #Mb1, #Mb2⟩, ⟨#Ms0, #Ms1, #Ms2⟩, #Mr0, #Mr1, #Mr2⟩,
      ⟨Tb0, Tb1, Tb2⟩, ⟨Tr0, Tr1, Tr2⟩, Ts0, Ts1, Ts2⟩, ⟨Cb, Cr0, Cr1, Cr2⟩, #Hlev, ⟨%fn, Hn⟩, ⟨%fl, Hl⟩⟩,
    Ho, ⟨%d0, %g0, %hg0, Hx⟩, ⟨%d1, %g1, %hg1, Hw⟩, ⟨%d2, %g2, %hg2, Hout⟩⟩, Hk⟩
  have hx : g0 = xstg m ρ c := by rw [hg0]; unfold Dat.before; rw [if_pos (fetch_x t₀)]; rfl
  have hw : g1 = wstg m ρ c := by rw [hg1]; unfold Dat.before; rw [if_pos (fetch_w t₀)]; rfl
  subst hx hw
  unfold Dat.owesAt Pipeline.owesWithin
  icases Ho with ⟨%W, %hW, HO⟩
  rw [show (dats m ρ 0 c).owed t₀.castSucc = O₀ c from rfl]
  unfold O₀
  ihave #HI' := (show invs m ρ K c ⊢ invs m ρ K c from BI.Entails.refl _) $$ HI
  unfold invs
  icases HI' with ⟨#Ib, ⟨#Is0, #Is1, #Is2⟩, ⟨#Ir0, #Ir1, #Ir2⟩, ⟨#Ip0, #Ip1, #Ip2⟩, #Iq0, #Iq1, #Iq2⟩
  ihave Hl := (Entails.of_eq (landing_cut c fl)) $$ Hl
  icases Hl with ⟨L0, L1, L2⟩
  -- the three signals
  iapply (wp_signal_peer m ρ K c 0 2 rfl _ (dev1_eq c) (by decide) fl (owesR c 2 + owesR c 1 + owesR c 0 + owesB c 2 + owesB c 1) W)
    $$ [HO Tb0 L0]
  · isplitr; · iexact Ip0
    isplitl [HO]; · iexact HO
    isplitl [Tb0]; · iexact Tb0
    isplitl [L0]; · iexact L0
    isplitr; · iexact Mr0
    iexact Mb0
  iintro HO
  iapply (wp_signal_peer m ρ K c 1 1 rfl _ (dev2_eq c) (by decide) fl (owesR c 2 + owesR c 1 + owesR c 0 + owesB c 2) W)
    $$ [HO Tb1 L1]
  · isplitr; · iexact Ip1
    isplitl [HO]; · iexact HO
    isplitl [Tb1]; · iexact Tb1
    isplitl [L1]; · iexact L1
    isplitr; · iexact Mr1
    iexact Mb1
  iintro HO
  iapply (wp_signal_peer m ρ K c 2 0 rfl _ (dev3_eq c) (by decide) fl (owesR c 2 + owesR c 1 + owesR c 0) W)
    $$ [HO Tb2 L2]
  · isplitr; · iexact Ip2
    isplitl [HO]; · iexact HO
    isplitl [Tb2]; · iexact Tb2
    isplitl [L2]; · iexact L2
    isplitr; · iexact Mr2
    iexact Mb2
  iintro HO
  -- the narrowed copy
  iapply (wp_load 𝒱₀ (c : Thread nD τ) none Set.univ (m := xM) (Finset.subset_univ _)) $$ Hx; iintro Hx
  rw [read_x]
  iapply (wp_load 𝒱₀ (c : Thread nD τ) none Set.univ (m := nM) (Finset.subset_univ _)) $$ Hn; iintro Hn
  iapply (wp_store 𝒱₀ (c : Thread nD τ) none Set.univ (m := nM) (r := nR) (Mk := Finset.univ) (Finset.subset_univ _)) $$ Hn; iintro Hn
  rw [write_narrow]
  ihave Hn := (show ((View.loc (c : Thread nD τ) (nM.access nR) ↦{fullShare} k0_pay2 (xstg m ρ c)) : sProp 𝕄)
      ⊢ iprop(rowAt c 0 (xs m ρ c) ∗ rowAt c 1 (xs m ρ c) ∗ rowAt c 2 (xs m ρ c) ∗ keptAt c (xs m ρ c)) from
    Entails.of_eq (narrow_cut c (xs m ρ c))) $$ Hn
  icases Hn with ⟨N0, N1, N2, Nk⟩
  -- the wait on the barrier
  iapply (wp_wait_bar m ρ K c (by decide) W) $$ [Cb HO Ab]
  · isplitr; · iexact Ib
    isplitl [Cb]; · iexact Cb
    isplitl [HO]; · iexact HO
    isplitr; · iexact Hlev
    iexact Ab
  unfold lent
  iintro ⟨HO, Ab, ⟨⟨%p0, P0⟩, #Mq0⟩, ⟨⟨%p1, P1⟩, #Mq1⟩, ⟨%p2, P2⟩, #Mq2⟩
  -- the three copies
  iapply (wp_copy m ρ K c 0 2 rfl _ (dev4_eq c) p0 (owesR c 2 + owesR c 1) (insert (SemLoc.reg barS, ()) W)) $$ [N0 P0 HO Ts2 Tr0]
  · isplitr; · iexact Is2
    isplitr; · iexact Iq0
    isplitl [N0]; · iexact N0
    isplitl [P0]; · iexact P0
    isplitl [HO]; · iexact HO
    isplitl [Ts2]; · iexact Ts2
    isplitr; · iexact Ms2
    isplitl [Tr0]; · iexact Tr0
    iexact Mq0
  iintro ⟨Cs2, HO⟩
  iapply (wp_copy m ρ K c 1 1 rfl _ (dev5_eq c) p1 (owesR c 2) (insert (SemLoc.reg barS, ()) W)) $$ [N1 P1 HO Ts1 Tr1]
  · isplitr; · iexact Is1
    isplitr; · iexact Iq1
    isplitl [N1]; · iexact N1
    isplitl [P1]; · iexact P1
    isplitl [HO]; · iexact HO
    isplitl [Ts1]; · iexact Ts1
    isplitr; · iexact Ms1
    isplitl [Tr1]; · iexact Tr1
    iexact Mq1
  iintro ⟨Cs1, HO⟩
  iapply (wp_copy m ρ K c 2 0 rfl _ (dev6_eq c) p2 0 (insert (SemLoc.reg barS, ()) W)) $$ [N2 P2 HO Ts0 Tr2]
  · isplitr; · iexact Is0
    isplitr; · iexact Iq2
    isplitl [N2]; · iexact N2
    isplitl [P2]; · iexact P2
    isplitl [HO]; · rw [zero_add]; iexact HO
    isplitl [Ts0]; · iexact Ts0
    isplitr; · iexact Ms0
    isplitl [Tr2]; · iexact Tr2
    iexact Mq2
  iintro ⟨Cs0, HO⟩
  -- its own product
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  -- the landings, slot 0, slot 2, slot 1
  iapply (wp_wait_recv m ρ K c 0 _ (insert (SemLoc.reg barS, ()) W)) $$ [Cr0 HO Ar0]
  · isplitr; · iexact Ir0
    isplitl [Cr0]; · iexact Cr0
    isplitl [HO] <;> iassumption
  unfold recvPay
  iintro ⟨HO, Ar0, ⟨%l0, %h0, L0⟩⟩
  iapply (wp_load_slot c 0 l0) $$ L0; iintro L0
  iapply (wp_load 𝒱₀ (c : Thread nD τ) none Set.univ (m := wM) (Finset.subset_univ _)) $$ Hw; iintro Hw
  iapply (wp_wait_recv m ρ K c 2 _ (insert (rLoc 0, ()) (insert (SemLoc.reg barS, ()) W))) $$ [Cr2 HO Ar2]
  · isplitr; · iexact Ir2
    isplitl [Cr2]; · iexact Cr2
    isplitl [HO] <;> iassumption
  unfold recvPay
  iintro ⟨HO, Ar2, ⟨%l2, %h2, L2⟩⟩
  iapply (wp_load_slot c 2 l2) $$ L2; iintro L2
  iapply (wp_load 𝒱₀ (c : Thread nD τ) none Set.univ (m := wM) (Finset.subset_univ _)) $$ Hw; iintro Hw
  iapply (wp_wait_recv m ρ K c 1 _ (insert (rLoc 2, ()) (insert (rLoc 0, ()) (insert (SemLoc.reg barS, ()) W)))) $$ [Cr1 HO Ar1]
  · isplitr; · iexact Ir1
    isplitl [Cr1]; · iexact Cr1
    isplitl [HO] <;> iassumption
  unfold recvPay
  iintro ⟨HO, Ar1, ⟨%l1, %h1, L1⟩⟩
  iapply (wp_load_slot c 1 l1) $$ L1; iintro L1
  iapply (wp_load 𝒱₀ (c : Thread nD τ) none Set.univ (m := wM) (Finset.subset_univ _)) $$ Hw; iintro Hw
  -- the result
  iapply (wp_load 𝒱₀ (c : Thread nD τ) none Set.univ (m := oM) (Finset.subset_univ _)) $$ Hout; iintro Hout
  iapply (wp_store 𝒱₀ (c : Thread nD τ) none Set.univ (m := oM) (r := oR) (Mk := Finset.univ) (Finset.subset_univ _)) $$ Hout; iintro Hout
  rw [write_out]
  -- its own copies have left
  iapply (wp_wait_send m ρ K c 0 (slotM 0) (rowM c 2) (credit_row c 2) (insert (rLoc 1, ()) (insert (rLoc 2, ()) (insert (rLoc 0, ()) (insert (SemLoc.reg barS, ()) W))))) $$ [Cs0 HO As0]
  · isplitr; · iexact Is0
    isplitl [Cs0]; · iexact Cs0
    isplitl [HO] <;> iassumption
  iintro ⟨HO, As0, S0⟩
  iapply (wp_wait_send m ρ K c 1 (slotM 1) (rowM c 1) (credit_row c 1) (insert (sLoc 0, ()) (insert (rLoc 1, ()) (insert (rLoc 2, ()) (insert (rLoc 0, ()) (insert (SemLoc.reg barS, ()) W)))))) $$ [Cs1 HO As1]
  · isplitr; · iexact Is1
    isplitl [Cs1]; · iexact Cs1
    isplitl [HO] <;> iassumption
  iintro ⟨HO, As1, S1⟩
  iapply (wp_wait_send m ρ K c 2 (slotM 2) (rowM c 0) (credit_row c 0) (insert (sLoc 1, ()) (insert (sLoc 0, ()) (insert (rLoc 1, ()) (insert (rLoc 2, ()) (insert (rLoc 0, ()) (insert (SemLoc.reg barS, ()) W))))))) $$ [Cs2 HO As2]
  · isplitr; · iexact Is2
    isplitl [Cs2]; · iexact Cs2
    isplitl [HO] <;> iassumption
  iintro ⟨HO, As2, S2⟩
  imod (close_all m ρ K c) $$ [Ab As0 As1 As2 Ar0 Ar1 Ar2] with Hz
  · isplitr; · (unfold invs; iexact HI)
    isplitl [Ab]; · iexact Ab
    isplitl [As0 As1 As2]
    · isplitl [As0]; · iexact As0
      isplitl [As1] <;> iassumption
    isplitl [Ar0]; · iexact Ar0
    isplitl [Ar1] <;> iassumption
  rw [wp_ret]; imodintro
  iapply Hk
  unfold bodyPost Φ₁ Dat.owesAt Pipeline.owesWithin scratch
  rw [show (dats m ρ 0 c).owed t₀.succ = 0 from rfl]
  isplitl [S0 S1 S2 Nk L0 L1 L2 Hz]
  · isplitl [S0 S1 S2 Nk L0 L1 L2]
    · isplitl [S0 S1 S2 Nk]
      · iexists xs m ρ c
        rw [narrow_cut]
        isplitl [S2]; · iapply (show sendPay m ρ c 2 ⊢ rowAt c 0 (xs m ρ c) from BI.Entails.refl _); iexact S2
        isplitl [S1]; · iapply (show sendPay m ρ c 1 ⊢ rowAt c 1 (xs m ρ c) from BI.Entails.refl _); iexact S1
        isplitl [S0]; · iapply (show sendPay m ρ c 0 ⊢ rowAt c 2 (xs m ρ c) from BI.Entails.refl _); iexact S0
        iexact Nk
      · iapply (landing_join c)
        isplitl [L0]; · iexists l0; iexact L0
        isplitl [L1]; · iexists l1; iexact L1
        iexists l2; iexact L2
    · iexact Hz
  isplitl [HO]
  · iexists (insert (sLoc 2, ()) (insert (sLoc 1, ()) (insert (sLoc 0, ()) (insert (rLoc 1, ()) (insert (rLoc 2, ()) (insert (rLoc 0, ()) (insert (SemLoc.reg barS, ()) W)))))))
    isplitr
    · ipureintro; exact fun _ _ => Or.inl trivial
    · iexact HO
  isplitl [Hx]
  · iexists _; isplitr; · (ipureintro; rfl)
    iexact Hx
  isplitl [Hw]
  · iexists _; isplitr; · (ipureintro; rfl)
    iexact Hw
  iexists _
  isplitr
  · ipureintro; exact stored_eq m ρ c l0 l1 l2 h0 h1 h2
  · iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

set_option maxRecDepth 4000 in
/-- What the launch asks of the body on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m ρ c)
  unfold bodyPre' Φ₀ start
  iintro ⟨⟨⟨⟨%K, Hg⟩, Hc, Hl⟩, Hs⟩, Hr⟩
  iapply (sound_body m ρ K c fun _ => bodyPost m ρ c)
  unfold bodyPre
  isplitl
  · isplitl [Hg Hc Hl Hs]
    · isplitl [Hg]; · iexact Hg
      isplitl [Hc]; · iexact Hc
      isplitl [Hl] <;> iassumption
    · iexact Hr
  · iintro H; iexact H

end Cert.Exchange

end
-- ==== Proof.Deal.lean ====
/-
# Dealing out the exchange's ghost state and credit

From the ghost element at launch and every semaphore at zero, each device gets the invariants it opens, its places, the
entitlements to the payments it makes, and credit for the waits that others pay.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the entitlements minted -/

theorem ownSemFacts : Pipeline.OwnSemFacts cfg0.spec osem := by decide

theorem csem_injective : Function.Injective (csem : Fin 7 → SemLoc sig) := by decide
theorem kcell_injective : Function.Injective (kcell : Dev nD × Fin 7 → GSem nD τ sig) := by
  rintro ⟨c, k⟩ ⟨c', k'⟩ h
  have hc : c = c' := congrArg (fun g : GSem nD τ sig => g.1.1) h
  exact Prod.ext hc (csem_injective (congrArg Prod.snd h))
def allCells : Finset (GSem nD τ sig) := Finset.univ.map ⟨kcell, kcell_injective⟩

/-- Device `c`'s entitlements, named by kind (barrier, receive, send) and distance. -/
abbrev tokSem (k j : Fin 3) : SemLoc sig := match k with
  | 0 => .reg barS | 1 => rLoc (op j) | 2 => sLoc j
abbrev tokName (k j : Fin 3) : Fin 3 := match k with
  | 0 => op j | 1 => 0 | 2 => 0
abbrev tokOf (x : Dev nD × Fin 3 × Fin 3) : GSem nD τ sig × ℕ × Fin 3 :=
  (((x.1 : Thread nD τ), tokSem x.2.1 x.2.2), 0, tokName x.2.1 x.2.2)
theorem tokPart_injective : Function.Injective fun x : Fin 3 × Fin 3 => (tokSem x.1 x.2, tokName x.1 x.2) := by decide
theorem tokOf_injective : Function.Injective tokOf := by
  rintro ⟨c, x⟩ ⟨c', x'⟩ h
  have hc : c = c' := congrArg (fun t : GSem nD τ sig × ℕ × Fin 3 => t.1.1.1) h
  exact Prod.ext hc (tokPart_injective (congrArg (fun t : GSem nD τ sig × ℕ × Fin 3 => (t.1.2, t.2.2)) h))
def allToks : Finset (GSem nD τ sig × ℕ × Fin 3) := Finset.univ.map ⟨tokOf, tokOf_injective⟩

def u₀ : UU :=
  (initOf (Pipeline.cells cfgs cellOf_inj) (Pipeline.launchToks cfgs cellOf_inj), initOf allCells allToks)

/-- The entitlements to the payments that device `c`'s own semaphores expect. -/
def toks (c : Dev nD) : sProp 𝕄 :=
  iprop((dutyTok ER (barCell c) 0 2 ∗ dutyTok ER (barCell c) 0 1 ∗ dutyTok ER (barCell c) 0 0)
    ∗ (dutyTok ER (recvCell c 2) 0 0 ∗ dutyTok ER (recvCell c 1) 0 0 ∗ dutyTok ER (recvCell c 0) 0 0)
    ∗ dutyTok ER (sendCell c 0) 0 0 ∗ dutyTok ER (sendCell c 1) 0 0 ∗ dutyTok ER (sendCell c 2) 0 0)

/-- What the launch element gives device `c`, -/
def G (c : Dev nD) : sProp 𝕄 :=
  iprop((bigSep Finset.univ fun k : Fin 7 => roundState ER (rd m ρ) (kcell (c, k)) 0)
    ∗ (bigSep Finset.univ fun k : Fin 7 => iprop(atPos ER (kcell (c, k)) 0 ∅ 0 ∗ reached ER (kcell (c, k)) 0)) ∗ toks c)
/-- and what it holds once the invariants are set up. -/
def G' (c : Dev nD) : sProp 𝕄 := iprop(∃ K, ghost m ρ K c)

theorem bigSep_seven (Φ : Fin 7 → sProp 𝕄) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem fund_cells : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun k : Fin 7 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks; rw [bigSep_univ_prod, bigSep_three, bigSep_three, bigSep_three, bigSep_three]; rfl
  iintro H
  imod (Rounds.fund ER (rd m ρ) allCells allToks) $$ H with ⟨Hst, Hr, Hat, Htok⟩
  imodintro
  ihave Hst := (Entails.of_eq (hX fun g => roundState ER (rd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitr [Htok]
  · isplitl [Hat] <;> iassumption
  iexact Htok

/-! ## The invariants -/

theorem ownSems0_eq (c : Dev nD) :
    (Pipeline.ownSems0 (Ix := Unit) (Name := ℕ) (U := UU) (Lvl := ℕ) (Val := Elt F) (τ := τ) osem c : sProp 𝕄)
      = iprop(semVal (sendCell c 0) 0 ∗ semVal (sendCell c 1) 0 ∗ semVal (sendCell c 2) 0
        ∗ semVal (recvCell c 0) 0 ∗ semVal (recvCell c 1) 0 ∗ semVal (recvCell c 2) 0) := by
  rw [Pipeline.ownSems0_eq_of_list c osem [0, 1, 2, 3, 4, 5] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_seven]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) := by
  unfold G
  iintro ⟨Ho, Hu, Hst, Hrest⟩
  ihave Hv := (sems0_eq (F := F) c) $$ [Ho Hu]
  · isplitl [Ho] <;> iassumption
  imod (show iprop((bigSep Finset.univ fun k : Fin 7 => semVal (kcell (c, k)) 0) ∗ bigSep Finset.univ fun k : Fin 7 => roundState ER (rd m ρ) (kcell (c, k)) 0)
      ⊢ (|={Set.univ}=> bigSep Finset.univ fun k => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with HI
  · isplitl [Hv] <;> iassumption
  imodintro
  isplitl [HI] <;> iassumption

/-- Every invariant, and every semaphore at its first round. -/
def shared (K : Dev nD × Fin 7 → ℕ) : sProp 𝕄 :=
  iprop((bigSep Finset.univ fun ck : Dev nD × Fin 7 => cellInv ER (rd m ρ) (K ck) (kcell ck))
    ∗ bigSep Finset.univ fun ck : Dev nD × Fin 7 => reached ER (kcell ck) 0)

instance shared_persistent (K : Dev nD × Fin 7 → ℕ) : BI.Persistent (shared m ρ K) := by unfold shared; infer_instance

theorem inv_at (K : Dev nD × Fin 7 → ℕ) (ck : Dev nD × Fin 7) : shared m ρ K ⊢ cellInv ER (rd m ρ) (K ck) (kcell ck) := by
  unfold shared; exact (sep_mono_left (bigSep_elim (Finset.mem_univ ck))).trans sep_elim_left
theorem mark_at (K : Dev nD × Fin 7 → ℕ) (ck : Dev nD × Fin 7) : shared m ρ K ⊢ reached ER (kcell ck) 0 := by
  unfold shared; exact (sep_mono_right (bigSep_elim (Finset.mem_univ ck))).trans sep_elim_right

theorem invs_of_shared (K : Dev nD × Fin 7 → ℕ) (c : Dev nD) : shared m ρ K ⊢ invs m ρ K c := by
  unfold invs
  iintro #H
  isplitr; · iapply (inv_at m ρ K (c, 0)); iexact H
  isplitr
  · isplitr; · iapply (inv_at m ρ K (c, 1)); iexact H
    isplitr; · iapply (inv_at m ρ K (c, 2)); iexact H
    iapply (inv_at m ρ K (c, 3)); iexact H
  isplitr
  · isplitr; · iapply (inv_at m ρ K (c, 4)); iexact H
    isplitr; · iapply (inv_at m ρ K (c, 5)); iexact H
    iapply (inv_at m ρ K (c, 6)); iexact H
  isplitr
  · isplitr; · iapply (inv_at m ρ K (peer c 0, 0)); iexact H
    isplitr; · iapply (inv_at m ρ K (peer c 1, 0)); iexact H
    iapply (inv_at m ρ K (peer c 2, 0)); iexact H
  isplitr; · iapply (inv_at m ρ K (peer c 0, 6)); iexact H
  isplitr; · iapply (inv_at m ρ K (peer c 1, 5)); iexact H
  iapply (inv_at m ρ K (peer c 2, 4)); iexact H

theorem marks_of_shared (K : Dev nD × Fin 7 → ℕ) (c : Dev nD) : shared m ρ K ⊢ marks c := by
  unfold marks
  iintro #H
  isplitr
  · isplitr; · iapply (mark_at m ρ K (peer c 0, 0)); iexact H
    isplitr; · iapply (mark_at m ρ K (peer c 1, 0)); iexact H
    iapply (mark_at m ρ K (peer c 2, 0)); iexact H
  isplitr
  · isplitr; · iapply (mark_at m ρ K (c, 1)); iexact H
    isplitr; · iapply (mark_at m ρ K (c, 2)); iexact H
    iapply (mark_at m ρ K (c, 3)); iexact H
  isplitr; · iapply (mark_at m ρ K (c, 4)); iexact H
  isplitr; · iapply (mark_at m ρ K (c, 5)); iexact H
  iapply (mark_at m ρ K (c, 6)); iexact H

theorem ghost_intro (K : Dev nD × Fin 7 → ℕ) (c : Dev nD) : iprop(shared m ρ K ∗ places c ∗ payToks c) ⊢ G' m ρ c := by
  unfold G' ghost
  iintro ⟨#H, Hp, Ht⟩
  iexists K
  isplitr; · iapply (invs_of_shared m ρ K c); iexact H
  isplitl [Hp]; · iexact Hp
  isplitr; · iapply (marks_of_shared m ρ K c); iexact H
  iexact Ht

/-- The entitlements go to the devices that pay: those of a distance move that distance around the devices. -/
theorem toks_around : (bigSep Finset.univ fun c : Dev nD => (toks c : sProp 𝕄)) ⊢ bigSep Finset.univ fun c : Dev nD => payToks c := by
  unfold toks payToks
  simp only [bigSep_sep']
  rw [bigSep_univ_equiv (shift 0) (fun c : Dev nD => (dutyTok ER (barCell c) 0 2 : sProp 𝕄)),
    bigSep_univ_equiv (shift 1) (fun c : Dev nD => (dutyTok ER (barCell c) 0 1 : sProp 𝕄)),
    bigSep_univ_equiv (shift 2) (fun c : Dev nD => (dutyTok ER (barCell c) 0 0 : sProp 𝕄)),
    bigSep_univ_equiv (shift 0) (fun c : Dev nD => (dutyTok ER (recvCell c 2) 0 0 : sProp 𝕄)),
    bigSep_univ_equiv (shift 1) (fun c : Dev nD => (dutyTok ER (recvCell c 1) 0 0 : sProp 𝕄)),
    bigSep_univ_equiv (shift 2) (fun c : Dev nD => (dutyTok ER (recvCell c 0) 0 0 : sProp 𝕄))]
  exact BI.Entails.refl _

theorem places_eq (c : Dev nD) : (bigSep Finset.univ fun k : Fin 7 => (atPos ER (kcell (c, k)) 0 ∅ 0 : sProp 𝕄)) ⊢ places c := by
  rw [bigSep_seven]
  unfold places
  iintro ⟨Hb, H1, H2, H3, H4⟩
  isplitl [Hb]; · iexact Hb
  isplitl [H1 H2 H3]
  · isplitl [H1]; · iexact H1
    isplitl [H2] <;> iassumption
  iexact H4

theorem regroup :
    (bigSep Finset.univ fun c : Dev nD => iprop((bigSep Finset.univ fun k => iprop(∃ κ : ℕ, cellInv ER (rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (rd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (rd m ρ) κ (kcell ck) : sProp 𝕄))) $$ HI
  icases HK with ⟨%K, #HI⟩
  ihave Htok := (toks_around (F := F)) $$ Htok
  ihave Hat := (show (bigSep Finset.univ fun c : Dev nD => bigSep Finset.univ fun k : Fin 7 => (atPos ER (kcell (c, k)) 0 ∅ 0 : sProp 𝕄))
      ⊢ bigSep Finset.univ fun c : Dev nD => places c from bigSep_mono fun c _ => places_eq (F := F) c) $$ Hat
  ihave #HS := (show iprop((bigSep Finset.univ fun ck : Dev nD × Fin 7 => cellInv ER (rd m ρ) (K ck) (kcell ck))
    ∗ bigSep Finset.univ fun ck : Dev nD × Fin 7 => reached ER (kcell ck) 0) ⊢ shared m ρ K from BI.Entails.refl _) $$ [HI HR]
  · isplitl <;> iassumption
  ihave HS' := (BI.bigSep_of_persistent (Finset.univ : Finset (Dev nD)) (shared m ρ K)) $$ HS
  iapply (show (bigSep Finset.univ fun c : Dev nD => iprop(shared m ρ K ∗ places c ∗ payToks c) : sProp 𝕄)
      ⊢ bigSep Finset.univ (G' m ρ) from bigSep_mono fun c _ => ghost_intro m ρ K c)
  rw [bigSep_sep', bigSep_sep']
  isplitl [HS']; · iexact HS'
  isplitl [Hat] <;> iassumption

/-- Every device's semaphores at once, the barriers among them. -/
theorem glob :
    (bigSep Finset.univ fun c => iprop(Pipeline.ownSems0 (Ix := Unit) (Name := ℕ) (U := UU) (Lvl := ℕ) (Val := Elt F) (τ := τ) osem c
        ∗ unscopedSems0 c ∗ G m ρ c) : sProp 𝕄)
      ⊢ |={Set.univ}=> bigSep Finset.univ (G' m ρ) :=
  ((bigSep_mono fun c _ => core_alloc m ρ c).trans (bigSep_fupd _ _)).trans (BI.fupd_mono (regroup m ρ))

/-! ## The credit -/

theorem bar_eq_iff {a b : Dev nD} : barCell a = barCell b ↔ a = b :=
  ⟨fun h => congrArg (fun g : GSem nD τ sig => g.1.1) h, fun h => h ▸ rfl⟩
theorem recv_eq_iff {a b : Dev nD} {s t : Fin 3} : recvCell a s = recvCell b t ↔ a = b ∧ s = t :=
  ⟨fun h => ⟨congrArg (fun g : GSem nD τ sig => g.1.1) h, recv_inj s t (congrArg Prod.snd h)⟩, fun h => by rw [h.1, h.2]⟩

theorem owesB_bar (d c : Dev nD) (e : Fin 3) : owesB d e (barCell c) () = if d = peer c (op e) then 1 else 0 := by
  unfold owesB
  rw [tallyAt_apply]
  exact if_congr ⟨fun h => (peer_eq_iff c d e).mp (bar_eq_iff.mp h.1).symm,
    fun h => ⟨(bar_eq_iff.mpr ((peer_eq_iff c d e).mpr h)).symm, rfl⟩⟩ rfl rfl
theorem owesR_bar (d c : Dev nD) (e : Fin 3) : owesR d e (barCell c) () = 0 := by
  unfold owesR
  rw [tallyAt_ne_cell (fun h => recv_ne_bar (op e) (congrArg Prod.snd h).symm), Finsupp.zero_apply]
theorem owesB_recv (d c : Dev nD) (e s : Fin 3) : owesB d e (recvCell c s) () = 0 := by
  unfold owesB
  rw [tallyAt_ne_cell (fun h => recv_ne_bar s (congrArg Prod.snd h)), Finsupp.zero_apply]
theorem owesR_recv (d c : Dev nD) (e s : Fin 3) :
    owesR d e (recvCell c s) () = if e = op s then (if d = peer c s then N else 0) else 0 := by
  unfold owesR
  rw [tallyAt_apply]
  by_cases he : e = op s
  · subst he
    rw [if_pos rfl, op_op]
    exact if_congr ⟨fun h => by
        have := (peer_eq_iff c d (op s)).mp (recv_eq_iff.mp h.1).1.symm
        rwa [op_op] at this,
      fun h => ⟨(recv_eq_iff.mpr ⟨(peer_eq_iff c d (op s)).mpr (by rw [op_op]; exact h), rfl⟩).symm, rfl⟩⟩ rfl rfl
  · rw [if_neg he, if_neg fun h => he (by rw [(recv_eq_iff.mp h.1).2, op_op])]

/-- What device `d` owes to the barrier of `c`: a unit for each distance at which it stands. -/
theorem owed_bar (d c : Dev nD) : O₀ d (barCell c) ()
    = (if d = peer c 0 then 1 else 0) + (if d = peer c 1 then 1 else 0) + (if d = peer c 2 then 1 else 0) := by
  unfold O₀
  simp only [Pi.add_apply, Finsupp.add_apply]
  rw [owesR_bar, owesR_bar, owesR_bar, owesB_bar, owesB_bar, owesB_bar]
  simp only [Nat.zero_add]
  rfl
theorem owed_recv (d c : Dev nD) (s : Fin 3) : O₀ d (recvCell c s) () = if d = peer c s then N else 0 := by
  unfold O₀
  simp only [Pi.add_apply, Finsupp.add_apply]
  rw [owesR_recv, owesR_recv, owesR_recv, owesB_recv, owesB_recv, owesB_recv]
  fin_cases s
  · exact (Nat.add_zero _)
  · exact (congrArg (· + 0) (Nat.zero_add _))
  · exact (Nat.zero_add _)

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_add_distrib, Finset.sum_ite_eq' Finset.univ (peer c 0) fun _ => 1, Finset.sum_ite_eq' Finset.univ (peer c 1) fun _ => 1,
    Finset.sum_ite_eq' Finset.univ (peer c 2) fun _ => 1, if_pos (Finset.mem_univ _), if_pos (Finset.mem_univ _),
    if_pos (Finset.mem_univ _)]
theorem launch_recv (c : Dev nD) (s : Fin 3) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s,
    Finset.sum_ite_eq' Finset.univ (peer c s) fun _ => N, if_pos (Finset.mem_univ _)]

theorem creds_intro (c : Dev nD) : (Pipeline.launchCred O₀ c : sProp 𝕄) ⊢ creds c := by
  unfold Pipeline.launchCred creds
  rw [← launch_bar, ← launch_recv, ← launch_recv, ← launch_recv]
  have hsub (Φ : SemLoc sig → sProp 𝕄) :
      bigSep Finset.univ Φ ⊢ iprop(Φ (.reg barS) ∗ Φ (rLoc 0) ∗ Φ (rLoc 1) ∗ Φ (rLoc 2)) := by
    have h : bigSep Finset.univ Φ ⊢ bigSep ({.reg barS, rLoc 0, rLoc 1, rLoc 2} : Finset (SemLoc sig)) Φ :=
      bigSep_subset (Finset.subset_univ _)
    rw [bigSep_eq_bigSepL_of_eq (S := {.reg barS, rLoc 0, rLoc 1, rLoc 2}) [SemLoc.reg barS, rLoc 0, rLoc 1, rLoc 2] (by decide) (by decide)] at h
    exact h
  exact hsub _

end Cert.Exchange

end
-- ==== Proof.Run.lean ====
/-
# The run of the whole program

All four devices together: every weakly fair execution terminates, and leaves each device's result array at the value
the one-device account gives, its arguments unchanged, and every semaphore at zero.
-/
module

public import proofs.«01_k».proof.Proof.Device
public import proofs.«01_k».proof.Proof.Deal
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hl, Hc, -, HG⟩
  ihave Hc := (creds_intro (F := F) c) $$ Hc
  imodintro
  unfold start G'
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ scratch zeros
  iintro ⟨Hr, Hb, ⟨H0, H1, H2⟩, H3⟩
  isplitl [Hb]; · iexact Hb
  isplitr [Hr]
  · isplitl [H0]; · iexact H0
    isplitl [H1]; · iexact H1
    isplitl [H2] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the array behind each window holds at the end. -/
def finalA (c : Dev nD) (w : Fin cfg0.W) : Buf (Elt F) ((cfg0.win w).arr.view.loc (c : Thread nD τ)) := (dats m ρ 0 c).arrAt w cfg0.N

def AllFinal : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- The run, for float values of any kind. -/
theorem run_main : θ_run defs (onTc (τ := τ) (main (F := F))) (s₀ m ρ) (fun r => AllFinal m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they started. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.Exchange

end
-- ==== Proof.KernelRun.lean ====
/- The run of the program as printed for the machine's floats. Its text and that of the program over the extended reals
   are one, so the run proved of the one is the run of the other: only the tables of function bodies are two definitions,
   and they are equal. -/
module

public import proofs.«01_k».proof.Proof.Run
public import proofs.«01_k».proof.Proof.Gen.Kernel.Launch

@[expose] public section

noncomputable section

namespace Cert.Exchange

open Idealize.ShloMosaic
open Idealize.ShloMosaic.TcCoe
open Idealize.SL.Sem

variable {F : FTy → Type} [FloatOps F]

/-- The kernel bodies of the two programs are the same, -/
theorem bodies_same : (Cert.Kernel.defs₀ (F := F))
    = (Cert.KernelIdeal.defs₀ (F := F) : Defs Cert.KernelIdeal.nD Cert.KernelIdeal.τ Cert.KernelIdeal.sig (Elt F) Cert.KernelIdeal.Λ₀) := by
  unfold Cert.Kernel.defs₀ Cert.KernelIdeal.defs₀
  refine congrArg Defs.onTc ?_
  funext l a
  match l, a with
  | 0, (t, s) => rfl
  | ⟨_ + 1, h⟩, _ => exact absurd h (Nat.not_lt.2 (Nat.le_add_left _ _))

/-- and so are the two tables with the staging loops added. -/
theorem tables_same : (Cert.Kernel.defs (F := F))
    = (Cert.KernelIdeal.defs (F := F) : Defs Cert.KernelIdeal.nD Cert.KernelIdeal.τ Cert.KernelIdeal.sig (Elt F)
        (Pipeline.Sig Cert.KernelIdeal.Λ₀ (Fin 1) fun p => (Cert.KernelIdeal.pcfgs (F := F) p).Adm)) :=
  congrArg (Pipeline.defs Cert.KernelIdeal.pcfgs) bodies_same

/-- The run of the program as printed. -/
theorem run_printed (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩
      (fun r => AllFinal (F := F) m ρ r ∧ r.2.sem = fun _ => 0) := by
  have h := run_main (F := F) m ρ
  rw [← tables_same] at h
  exact h

end Cert.Exchange

end
-- ==== Proof.Product.lean ====
/- What the kernel sums, read at an index: each of the four products is the part of the contraction that one device's
   columns of `x` contribute, and the four together are the contraction over all 1024. -/
module

public import proofs.«01_k».proof.Proof.Body
public import Idealize.ShloMosaic.Lib.MatmulPlain
public import Idealize.ShloMosaic.Lib.StackMember
public import Idealize.ShloMosaic.Lib.Pipeline.ValueKit.Geometry

@[expose] public section

noncomputable section

namespace Cert.Exchange

open Cert.KernelIdeal Cert.KernelIdeal.Gen
open Idealize.ShloMosaic
open Idealize.ShloMosaic.TcCoe
open Idealize.ShloMosaic.ValueIdx
open Idealize.SL.Sem
open scoped BigOperators

/-! ## Sums -/

/-- Row `256 d + k` of an array of four blocks of 256 rows. -/
def at4 (d : Fin 4) (k : Fin 256) : Fin 1024 := ⟨256 * d.val + k.val, by have := d.isLt; have := k.isLt; omega⟩

/-- A sum over 1024 is the four sums over 256. -/
theorem sum_blocks (f : Fin 1024 → EReal) : ∑ i : Fin 1024, f i = ∑ d : Fin 4, ∑ k : Fin 256, f (at4 d k) := by
  rw [← Fintype.sum_prod_type' (f := fun d k => f (at4 d k)),
    ← Equiv.sum_comp (finProdFinEquiv : Fin 4 × Fin 256 ≃ Fin (4 * 256)) f]
  refine Finset.sum_congr rfl fun p _ => congrArg f (Fin.ext ?_)
  show p.2.val + 256 * p.1.val = 256 * p.1.val + p.2.val
  omega

/-- The four devices, in the order in which device `c` adds their parts. -/
theorem sum_devices (g : Dev nD → EReal) (c : Dev nD) :
    ∑ d : Dev nD, g d = g c + g (peer c 0) + g (peer c 2) + g (peer c 1) := by
  rw [show ∑ d : Dev nD, g d = g 0 + g 1 + g 2 + g 3 from Fin.sum_univ_four g]
  match c with
  | 0 => show _ = g 0 + g 1 + g 3 + g 2; rw [add_right_comm _ (g 2)]
  | 1 => show _ = g 1 + g 2 + g 0 + g 3; rw [add_comm (g 0) (g 1), add_right_comm (g 1)]
  | 2 => show _ = g 2 + g 3 + g 1 + g 0; abel
  | 3 => show _ = g 3 + g 0 + g 2 + g 1; abel

/-! ## Reads -/

variable (m : (ℓ : Loc nD τ sig) → Buf (Elt Ideal) ℓ) (ρ : Dev nD → PrngReg)

/-- The arrays on entry: the device's columns of `x` -/
abbrev X (c : Dev nD) : (⟨2, ![1024, 256]⟩ : Shape).Idx → EReal := m ((c : Thread nD τ).loc main_arg0)
/-- and its copy of `w`. -/
abbrev W (c : Dev nD) : (⟨2, ![1024, 1024]⟩ : Shape).Idx → EReal := m ((c : Thread nD τ).loc main_arg1)

/-- The staged arrays are those arrays. -/
theorem xstg_eq (c : Dev nD) : xstg (F := Ideal) m ρ c = X m c := by
  funext i
  show X m c ((win0_0.rect (0 : Fin 1)).emb i) = X m c i
  congr 1
  funext a
  apply Fin.ext
  exact Pipeline.Window.rect_emb_val_of_index_zero win0_0 t₀ a (by fin_cases a <;> rfl) i
theorem wstg_eq (c : Dev nD) : wstg (F := Ideal) m ρ c = W m c := by
  funext i
  show W m c ((win0_1.rect (0 : Fin 1)).emb i) = W m c i
  congr 1
  funext a
  apply Fin.ext
  exact Pipeline.Window.rect_emb_val_of_index_zero win0_1 t₀ a (by fin_cases a <;> rfl) i

theorem off2_eq (c : Dev nD) : k0_off2 c = ![256 * c.val, 0] :=
  (by decide +kernel : ∀ c : Dev nD, k0_off2 c = ![256 * c.val, 0]) c
theorem off3_eq (c : Dev nD) : k0_off3 c = ![256 * c.val, 0] :=
  (by decide +kernel : ∀ c : Dev nD, k0_off3 c = ![256 * c.val, 0]) c

/-- A rectangle of 256 rows that starts at row `256 d` holds, at `(r, k)`, the place `(256 d + r, k)`. -/
theorem rect_rows {n : ℕ} (d : Fin 4) (off : Fin 2 → ℕ) (hoff : off = ![256 * d.val, 0])
    (inb : ∀ a, off a + (⟨2, ![256, n]⟩ : Shape).size a ≤ (⟨2, ![1024, n]⟩ : Shape).size a) (r : Fin 256) (k : Fin n) :
    (Rect.unit (s := ⟨2, ![1024, n]⟩) off (⟨2, ![256, n]⟩ : Shape).size inb).idx (ix2 r k) = ix2 (at4 d r) k := by
  subst hoff
  funext a
  apply Fin.ext
  match a with
  | ⟨0, _⟩ => show 256 * d.val + 1 * r.val = 256 * d.val + r.val; rw [one_mul]
  | ⟨1, _⟩ => show 0 + 1 * k.val = k.val; omega

/-- The device's own rows of its columns, -/
theorem xown_apply (c : Dev nD) (r k : Fin 256) : xown (F := Ideal) m ρ c (ix2 r k) = X m c (ix2 (at4 c r) k) := by
  unfold xown
  rw [xstg_eq]
  exact congrArg (X m c) (rect_rows c (k0_off2 c) (off2_eq c) (k0_off2_inb c) r k)
/-- the rows of `w` of its own block, -/
theorem wown_apply (c : Dev nD) (k : Fin 256) (j : Fin 1024) : wown (F := Ideal) m ρ c (ix2 k j) = W m c (ix2 (at4 c k) j) := by
  unfold wown
  rw [wstg_eq]
  exact congrArg (W m c) (rect_rows c (k0_off3 c) (off3_eq c) (k0_off3_inb c) k j)
/-- those of block `peer c e`, -/
theorem wrow_apply (c : Dev nD) (e : Fin 3) (k : Fin 256) (j : Fin 1024) :
    wrow (F := Ideal) m ρ c e (ix2 k j) = W m c (ix2 (at4 (peer c e) k) j) := by
  unfold wrow
  rw [wstg_eq]
  exact congrArg (W m c) (rect_rows (peer c e) _ (off4_eq c e) (k0_off4_inb c e) k j)
/-- and the rows that copy `e` carries: block `peer c e` of the sender's columns. -/
theorem rows_apply (c : Dev nD) (e : Fin 3) (r k : Fin 256) :
    rows (F := Ideal) m ρ c e (ix2 r k) = X m c (ix2 (at4 (peer c e) r) k) := by
  have hx : xs (F := Ideal) m ρ c = X m c := by
    unfold xs k0_pay2
    rw [xstg_eq]
    simp only [shapeCast_self]
    rfl
  unfold rows
  rw [hx]
  exact congrArg (X m c) (rect_rows (peer c e) _ (off1_eq c e) _ r k)

/-! ## The sum -/

/-- What device `d`'s columns contribute to row `R`, column `j`, with `w` as device `c` holds it. -/
def part (c d : Dev nD) (R j : Fin 1024) : EReal := ∑ k : Fin 256, X m d (ix2 R k) * W m c (ix2 (at4 d k) j)

/-- A product of a 256-column block, on a zero accumulator, at an index. -/
theorem block_product {φ : FTy} (a : FVec Ideal S256x256 φ) (w : FVec Ideal S256x1024 .f32) (r : Fin 256) (j : Fin 1024) :
    matmul dot_S256x256_S256x1024_S256x1024_1_0_0_1_n_n none a w (constant (F := Ideal) S256x1024 .f32 0x00000000#32) (ix2 r j)
      = ∑ k : Fin 256, a (ix2 r k) * w (ix2 k j) := by
  refine (Ideal.matmul_plain_apply (M := 256) (K := 256) (N := 1024) none a w _ r j).trans ?_
  have h0 : constant (F := Ideal) S256x1024 .f32 0x00000000#32 (ix2 r j) = (0 : EReal) := Ideal.ofBits_zero_f32
  rw [h0, zero_add]

theorem own_apply (c : Dev nD) (r : Fin 256) (j : Fin 1024) :
    k0_pay3 (F := Ideal) (xown m ρ c) (wown m ρ c) (ix2 r j) = part m c c (at4 c r) j := by
  unfold k0_pay3
  simp only [shapeCast_self]
  refine (block_product _ _ r j).trans (Finset.sum_congr rfl fun k _ => ?_)
  rw [xown_apply, wown_apply]

theorem addPart_apply (acc : FVec Ideal S256x1024 .f32) (c : Dev nD) (e : Fin 3) (r : Fin 256) (j : Fin 1024) :
    addPart acc (rows (F := Ideal) m ρ (peer c e) (op e)) (wrow m ρ c e) (ix2 r j)
      = acc (ix2 r j) + part m c (peer c e) (at4 c r) j := by
  unfold addPart
  simp only [shapeCast_self]
  refine congrArg (acc (ix2 r j) + ·) ?_
  refine (block_product _ _ r j).trans (Finset.sum_congr rfl fun k _ => ?_)
  have hr := rows_apply m ρ (peer c e) (op e) r k
  rw [peer_op] at hr
  rw [wrow_apply]
  exact congrArg (· * _) hr

/-- The kernel's sum is the four parts, -/
theorem sumAt_parts (c : Dev nD) (r : Fin 256) (j : Fin 1024) :
    sumAt (F := Ideal) m ρ c (ix2 r j) = part m c c (at4 c r) j + part m c (peer c 0) (at4 c r) j
      + part m c (peer c 2) (at4 c r) j + part m c (peer c 1) (at4 c r) j := by
  unfold sumAt
  rw [addPart_apply, addPart_apply, addPart_apply, own_apply]

/-- and, where the devices hold the column blocks of one `x` and copies of one `w`, a row of `x` times a column of `w`. -/
theorem sumAt_whole (x w : (⟨2, ![1024, 1024]⟩ : Shape).Idx → EReal)
    (hx : ∀ d, X m d = Layout.block ⟨2, ![1024, 256]⟩ ⟨2, ![1024, 1024]⟩ 1 4 d x) (hw : ∀ d, W m d = w)
    (c : Dev nD) (r : Fin 256) (j : Fin 1024) :
    sumAt (F := Ideal) m ρ c (ix2 r j) = ∑ i : Fin 1024, x (ix2 (at4 c r) i) * w (ix2 i j) := by
  rw [sumAt_parts, ← sum_devices (fun d => part m c d (at4 c r) j) c, sum_blocks]
  refine Finset.sum_congr rfl fun d _ => Finset.sum_congr rfl fun k _ => ?_
  rw [hw c, hx d, Layout.block_apply]
  congr 2
  funext a
  apply Fin.ext
  match a with
  | ⟨0, _⟩ => rfl
  | ⟨1, _⟩ => show d.val * 256 + k.val = 256 * d.val + k.val; rw [mul_comm]

/-! ## The result -/

/-- The result array holds what the kernel stored. -/
theorem result_eq (c : Dev nD) : (dats (F := Ideal) m ρ 0 c).arrAt (2 : Fin 3) cfg0.N = outAt (F := Ideal) m ρ c := by
  refine (dats (F := Ideal) m ρ 0 c).arrAt_eq_of_after_last (2 : Fin 3) t₀ (by decide +kernel) _ fun j => ?_
  rfl

end Cert.Exchange

end
-- ==== Proof.Sigmoid.lean ====
/- The scalar facts: `y` times its logistic function is `y` over `1 + e^(-y)` for every extended real `y`, the infinities
   included, and clipping at ±60 changes nothing in between. -/
module

public import Idealize.ShloMosaic.Lib.IdealHost

@[expose] public section

noncomputable section

namespace Cert.Exchange

open Idealize.ShloMosaic

/-- The exponential is never negative. -/
theorem exp_nonneg : ∀ y : EReal, 0 ≤ Ideal.exp y
  | ⊥ => le_refl _
  | ⊤ => le_top
  | (r : ℝ) => EReal.coe_nonneg.2 (Real.exp_pos r).le

/-- The denominator is never zero. -/
theorem denominator_ne_zero (y : EReal) : (1 : EReal) + Ideal.exp (-y) ≠ 0 := by
  have h : (0 : EReal) < 1 + Ideal.exp (-y) := lt_of_lt_of_le zero_lt_one (le_add_of_nonneg_right (exp_nonneg _))
  exact h.ne'

/-- The kernel's form of the activation is the reference's. -/
theorem mul_logistic (y : EReal) : y * Ideal.logistic y = Ideal.div y (1 + Ideal.exp (-y)) := by
  unfold Ideal.logistic Ideal.div
  rw [if_neg (denominator_ne_zero y), if_neg (denominator_ne_zero y), one_mul]

/-- Between the two bounds the clip is the identity. -/
theorem clip_id {y lo hi : EReal} (h₁ : lo ≤ y) (h₂ : y ≤ hi) : min hi (max lo y) = y := by
  rw [max_eq_right h₁, min_eq_right h₂]

/-- Four numbers within ±15 add up to one within ±60. -/
theorem sum_four_bounds {a b c d : EReal} (ha : max a (-a) ≤ ((15 : ℝ) : EReal)) (hb : max b (-b) ≤ ((15 : ℝ) : EReal))
    (hc : max c (-c) ≤ ((15 : ℝ) : EReal)) (hd : max d (-d) ≤ ((15 : ℝ) : EReal)) :
    ((-60 : ℝ) : EReal) ≤ a + b + c + d ∧ a + b + c + d ≤ ((60 : ℝ) : EReal) := by
  have up : ∀ {x : EReal}, max x (-x) ≤ ((15 : ℝ) : EReal) → x ≤ ((15 : ℝ) : EReal) := fun h => (le_max_left _ _).trans h
  have dn : ∀ {x : EReal}, max x (-x) ≤ ((15 : ℝ) : EReal) → ((-15 : ℝ) : EReal) ≤ x := fun h => by
    rw [EReal.coe_neg]; exact EReal.neg_le_of_neg_le ((le_max_right _ _).trans h)
  constructor
  · have e : ((-60 : ℝ) : EReal) = ((-15 : ℝ) : EReal) + ((-15 : ℝ) : EReal) + ((-15 : ℝ) : EReal) + ((-15 : ℝ) : EReal) := by
      rw [← EReal.coe_add, ← EReal.coe_add, ← EReal.coe_add]; norm_num
    rw [e]
    exact add_le_add (add_le_add (add_le_add (dn ha) (dn hb)) (dn hc)) (dn hd)
  · have e : ((60 : ℝ) : EReal) = ((15 : ℝ) : EReal) + ((15 : ℝ) : EReal) + ((15 : ℝ) : EReal) + ((15 : ℝ) : EReal) := by
      rw [← EReal.coe_add, ← EReal.coe_add, ← EReal.coe_add]; norm_num
    rw [e]
    exact add_le_add (add_le_add (add_le_add (up ha) (up hb)) (up hc)) (up hd)

/-- The written bounds: 60, -/
theorem word_sixty : Ideal.ofBits .f32 0x42700000#32 = ((60 : ℝ) : EReal) := by
  simp [Ideal.ofBits, Ideal.ieee, -EReal.coe_mul, -EReal.coe_neg]; norm_num
/-- -60 -/
theorem word_minus_sixty : Ideal.ofBits .f32 0xC2700000#32 = ((-60 : ℝ) : EReal) := by
  simp [Ideal.ofBits, Ideal.ieee, -EReal.coe_mul, -EReal.coe_neg]; norm_num
/-- and 15. -/
theorem word_fifteen : Ideal.ofBits .f32 0x41700000#32 = ((15 : ℝ) : EReal) := by
  simp [Ideal.ofBits, Ideal.ieee, -EReal.coe_mul, -EReal.coe_neg]; norm_num

end Cert.Exchange

end
-- ==== Proof.Bounds.lean ====
/- What the precondition says: every product of 256 terms that a device can contribute lies within ±15. -/
module

public import proofs.«01_k».proof.Proof.Product
public import proofs.«01_k».proof.Proof.Sigmoid
public import proofs.«01_k».proof.Proof.Gen.Pre_small_parts_KernelIdeal
public import Idealize.ShloMosaic.Lib.ReduceAll
public import Idealize.ShloMosaic.Lib.WordArith

@[expose] public section

noncomputable section

namespace Cert.Exchange

open Cert.Pre_small_parts_KernelIdeal Cert.Pre_small_parts_KernelIdeal.Gen
open Idealize.ShloMosaic
open Idealize.ShloMosaic.ValueIdx
open scoped BigOperators

instance : Subsingleton S_.Idx := ⟨fun _ _ => funext fun a => a.elim0⟩

/-- One of the four conjuncts, read at an entry: the columns `x` times rows `256 b …` of `w`. -/
theorem bound_of_block (x : FVec Ideal S1024x256 .f32) (w : FVec Ideal S1024x1024 .f32) (b : Fin 4) (off : Fin 2 → ℕ)
    (hoff : off = ![256 * b.val, 0]) (hs : S1024x1024.Slices off S256x1024) (i₀ : S_.Idx)
    (h : Host.reduce IntOp.andi
      (cmpf .ole (Host.absf (Host.dotGeneral dot_S1024x256_S256x1024_S1024x1024_1_0_0_1_n_n none x (extractStridedSlice S256x1024 off w hs)))
        (broadcastInDim S1024x1024 ![] bcast_S_S1024x1024 (constant (F := Ideal) S_ .f32 0x41700000#32)))
      (constantI S_ 1 1#1) reducesTo_S1024x1024_S_d0_1 h_S_ i₀ = 1#1) (R j : Fin 1024) :
    max (∑ k : Fin 256, x (ix2 R k) * w (ix2 (at4 b k) j)) (-(∑ k : Fin 256, x (ix2 R k) * w (ix2 (at4 b k) j))) ≤ ((15 : ℝ) : EReal) := by
  have e := Host.reduce_andi_all _ _ _ _ _ h (ix2 R j)
  have e' := of_decide_eq_true ((Idealize.ShloMosaic.WordArith.ofBool_eq_one_iff _).1 e)
  rw [← word_fifteen]
  refine le_trans (le_of_eq ?_) e'
  have hd : Host.dotGeneral dot_S1024x256_S256x1024_S1024x1024_1_0_0_1_n_n none x (extractStridedSlice S256x1024 off w hs) (ix2 R j)
      = ∑ k : Fin 256, x (ix2 R k) * w (ix2 (at4 b k) j) := by
    refine (StackMember.dotGeneral_plain_apply (m := 1024) (n := 1024) (k := 256) none x (extractStridedSlice S256x1024 off w hs) R j).trans ?_
    refine Finset.sum_congr rfl fun k _ => congrArg (x (ix2 R k) * ·) (congrArg w ?_)
    subst hoff
    funext a
    apply Fin.ext
    match a with
    | ⟨0, _⟩ => rfl
    | ⟨1, _⟩ => exact Nat.zero_add _
  exact (congrArg (fun y : EReal => max y (-y)) hd).symm

/-- All four, of the precondition's function. -/
theorem bound_of_small_parts (x : FVec Ideal S1024x256 .f32) (w : FVec Ideal S1024x1024 .f32)
    (h : fn (F := Ideal) x w = fun _ => 1#1) (b : Fin 4) (R j : Fin 1024) :
    max (∑ k : Fin 256, x (ix2 R k) * w (ix2 (at4 b k) j)) (-(∑ k : Fin 256, x (ix2 R k) * w (ix2 (at4 b k) j))) ≤ ((15 : ℝ) : EReal) := by
  have h₀ := congrFun h (fun a => a.elim0)
  dsimp only [fn, fn_part1] at h₀
  obtain ⟨h₁, h3⟩ := IntOp.andi_eq_one.1 h₀
  obtain ⟨h₂, h2⟩ := IntOp.andi_eq_one.1 h₁
  obtain ⟨h₃, h1⟩ := IntOp.andi_eq_one.1 h₂
  obtain ⟨_, h0⟩ := IntOp.andi_eq_one.1 h₃
  match b with
  | 0 => exact bound_of_block x w 0 _ rfl _ _ h0 R j
  | 1 => exact bound_of_block x w 1 _ rfl _ _ h1 R j
  | 2 => exact bound_of_block x w 2 _ rfl _ _ h2 R j
  | 3 => exact bound_of_block x w 3 _ rfl _ _ h3 R j

end Cert.Exchange

end
-- ==== Proof.References.lean ====
/- The two references: what each leaves in its result, read at an index, and that each ends with every counter at zero
   (they have no semaphore). -/
module

public import proofs.«01_k».proof.Proof.Sigmoid
public import proofs.«01_k».proof.Proof.Gen.ReferenceIdeal.Run
public import proofs.«01_k».proof.Proof.Gen.UnclippedIdeal.Run
public import Idealize.ShloMosaic.Lib.StackMember
public import Idealize.ShloMosaic.Lib.Quiescent

@[expose] public section

noncomputable section

namespace Cert.Exchange

open Idealize.ShloMosaic
open Idealize.ShloMosaic.TcCoe
open Idealize.ShloMosaic.ValueIdx
open Idealize.SL.Sem
open scoped BigOperators

/-- A row of `x` times a column of `w`. -/
def product (x w : (⟨2, ![1024, 1024]⟩ : Shape).Idx → EReal) (R j : Fin 1024) : EReal :=
  ∑ i : Fin 1024, x (ix2 R i) * w (ix2 i j)

/-! ## The reference as given -/

namespace Clipped
open Cert.ReferenceIdeal Cert.ReferenceIdeal.Gen

variable (m : (ℓ : Loc nD τ sig) → Buf (Elt Ideal) ℓ) (ρ : Dev nD → PrngReg)

/-- The result it leaves. -/
def result (x w : FVec Ideal S1024x1024 .f32) : FVec Ideal S1024x1024 .f32 :=
  Host.divf (Host.dotGeneral dot_S1024x1024_S1024x1024_S1024x1024_1_0_0_1_n_n none x w)
    (addf (broadcastInDim S1024x1024 ![] bcast_S_S1024x1024 (constant S_ .f32 0x3F800000#32))
      (Host.exp (Host.negf (minimumf (broadcastInDim S1024x1024 ![] bcast_S_S1024x1024 (id (constant S_ .f32 0x42700000#32)))
        (maximumf (broadcastInDim S1024x1024 ![] bcast_S_S1024x1024 (id (constant S_ .f32 0xC2700000#32)))
          (Host.dotGeneral dot_S1024x1024_S1024x1024_S1024x1024_1_0_0_1_n_n none x w))))))

/-- At an index it is `y / (1 + e^(-clip y))`. -/
theorem result_apply (x w : FVec Ideal S1024x1024 .f32) (R j : Fin 1024) :
    result x w (ix2 R j) = Ideal.div (product x w R j)
      (1 + Ideal.exp (-(min ((60 : ℝ) : EReal) (max ((-60 : ℝ) : EReal) (product x w R j))))) := by
  have hd : Host.dotGeneral dot_S1024x1024_S1024x1024_S1024x1024_1_0_0_1_n_n none x w (ix2 R j) = product x w R j :=
    StackMember.dotGeneral_plain_apply (m := 1024) (n := 1024) (k := 1024) none x w R j
  rw [← hd, ← word_sixty, ← word_minus_sixty, ← Ideal.ofBits_one_f32]
  rfl

/-- Its run: the result, the arguments kept, the counters at zero. -/
theorem run_all : θ_run defs (onTc (τ := τ) (main (F := Ideal))) ⟨m, fun _ => 0, ρ⟩ fun r =>
    (∀ c : Dev nD, r.2.mem ((c : Thread nD τ).loc main_v6) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun r h => ⟨h, sem_eq_zero_of_no_sems (by decide) r.2⟩) (Value.run (F := Ideal) m ρ)

end Clipped

/-! ## The same without the clip -/

namespace Plain
open Cert.UnclippedIdeal Cert.UnclippedIdeal.Gen

variable (m : (ℓ : Loc nD τ sig) → Buf (Elt Ideal) ℓ) (ρ : Dev nD → PrngReg)

/-- The result it leaves. -/
def result (x w : FVec Ideal S1024x1024 .f32) : FVec Ideal S1024x1024 .f32 :=
  Host.divf (Host.dotGeneral dot_S1024x1024_S1024x1024_S1024x1024_1_0_0_1_n_n none x w)
    (addf (broadcastInDim S1024x1024 ![] bcast_S_S1024x1024 (constant S_ .f32 0x3F800000#32))
      (Host.exp (Host.negf (Host.dotGeneral dot_S1024x1024_S1024x1024_S1024x1024_1_0_0_1_n_n none x w))))

/-- At an index it is `y / (1 + e^(-y))`. -/
theorem result_apply (x w : FVec Ideal S1024x1024 .f32) (R j : Fin 1024) :
    result x w (ix2 R j) = Ideal.div (product x w R j) (1 + Ideal.exp (-(product x w R j))) := by
  have hd : Host.dotGeneral dot_S1024x1024_S1024x1024_S1024x1024_1_0_0_1_n_n none x w (ix2 R j) = product x w R j :=
    StackMember.dotGeneral_plain_apply (m := 1024) (n := 1024) (k := 1024) none x w R j
  rw [← hd, ← Ideal.ofBits_one_f32]
  rfl

/-- Its run. -/
theorem run_all : θ_run defs (onTc (τ := τ) (main (F := Ideal))) ⟨m, fun _ => 0, ρ⟩ fun r =>
    (∀ c : Dev nD, r.2.mem ((c : Thread nD τ).loc main_v5) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0 :=
  (θ_run defs _ _).mono (fun r h => ⟨h, sem_eq_zero_of_no_sems (by decide) r.2⟩) (Value.run (F := Ideal) m ρ)

end Plain

end Cert.Exchange

end
-- ==== Proof.Values.lean ====
/- The two value claims' mathematics: where the devices hold the column blocks of one `x` and copies of one `w`, the array
   each device ends with is its block of rows of the reference's result. -/
module

public import proofs.«01_k».proof.Proof.Bounds
public import proofs.«01_k».proof.Proof.References
public import proofs.«01_k».proof.Proof.Run

@[expose] public section

noncomputable section

namespace Cert.Exchange

open Cert.KernelIdeal Cert.KernelIdeal.Gen
open Idealize.ShloMosaic
open Idealize.ShloMosaic.TcCoe
open Idealize.ShloMosaic.ValueIdx
open Idealize.SL.Sem

variable (m : (ℓ : Loc nD τ sig) → Buf (Elt Ideal) ℓ) (ρ : Dev nD → PrngReg)
variable (x w : (⟨2, ![1024, 1024]⟩ : Shape).Idx → EReal)

/-- The devices' arrays are the parts of `x` and `w`. -/
def Parts : Prop :=
  (∀ d, X m d = Layout.block ⟨2, ![1024, 256]⟩ ⟨2, ![1024, 1024]⟩ 1 4 d x) ∧ ∀ d, W m d = w

/-- Block `c` of the rows of an array, at an index. -/
theorem block_rows (v : (⟨2, ![1024, 1024]⟩ : Shape).Idx → EReal) (c : Fin 4) (r : Fin 256) (j : Fin 1024) :
    Layout.block ⟨2, ![256, 1024]⟩ ⟨2, ![1024, 1024]⟩ 0 4 c v (by decide) (ix2 r j) = v (ix2 (at4 c r) j) := by
  rw [Layout.block_apply]
  congr 1
  funext a
  apply Fin.ext
  match a with
  | ⟨0, _⟩ => show c.val * 256 + r.val = 256 * c.val + r.val; rw [mul_comm]
  | ⟨1, _⟩ => rfl

/-- The stored value at an index. -/
theorem outAt_apply (h : Parts m x w) (c : Dev nD) (r : Fin 256) (j : Fin 1024) :
    outAt (F := Ideal) m ρ c (ix2 r j)
      = Ideal.div (product x w (at4 c r) j) (1 + Ideal.exp (-(product x w (at4 c r) j))) := by
  have hs : sumAt (F := Ideal) m ρ c (ix2 r j) = product x w (at4 c r) j := sumAt_whole m ρ x w h.1 h.2 c r j
  rw [← hs]
  exact mul_logistic _

/-- Without the clip: always. -/
theorem final_plain (h : Parts m x w) (c : Dev nD) :
    finalA (F := Ideal) m ρ c (2 : Fin 3) = Layout.block ⟨2, ![256, 1024]⟩ ⟨2, ![1024, 1024]⟩ 0 4 c (Plain.result x w) (by decide) := by
  refine (result_eq m ρ c).trans (funext fun i => ?_)
  obtain ⟨r, j, rfl⟩ : ∃ (r : Fin 256) (j : Fin 1024), i = ix2 r j := ⟨i 0, i 1, eq_ix2 i⟩
  rw [block_rows, Plain.result_apply]
  exact outAt_apply m ρ x w h c r j

/-- The product of the whole arrays is within the clip's bounds when the four parts are small. -/
theorem product_bounds (h : Parts m x w)
    (hp : ∀ d, Cert.Pre_small_parts_KernelIdeal.fn (F := Ideal) (X m d) (W m d) = fun _ => 1#1) (R j : Fin 1024) :
    ((-60 : ℝ) : EReal) ≤ product x w R j ∧ product x w R j ≤ ((60 : ℝ) : EReal) := by
  have hb : ∀ d : Fin 4, max (part m d d R j) (-(part m d d R j)) ≤ ((15 : ℝ) : EReal) :=
    fun d => bound_of_small_parts (X m d) (W m d) (hp d) d R j
  have e : product x w R j = part m 0 0 R j + part m 1 1 R j + part m 2 2 R j + part m 3 3 R j := by
    refine Eq.trans ?_ (Fin.sum_univ_four (fun d : Fin 4 => part m d d R j))
    unfold product
    rw [sum_blocks]
    refine Finset.sum_congr rfl fun d _ => Finset.sum_congr rfl fun k _ => ?_
    rw [h.2 d, h.1 d, Layout.block_apply]
    congr 2
    funext a
    apply Fin.ext
    match a with
    | ⟨0, _⟩ => rfl
    | ⟨1, _⟩ => show 256 * d.val + k.val = d.val * 256 + k.val; rw [mul_comm]
  rw [e]
  exact sum_four_bounds (hb 0) (hb 1) (hb 2) (hb 3)

/-- With the clip: under the precondition. -/
theorem final_clipped (h : Parts m x w)
    (hp : ∀ d, Cert.Pre_small_parts_KernelIdeal.fn (F := Ideal) (X m d) (W m d) = fun _ => 1#1) (c : Dev nD) :
    finalA (F := Ideal) m ρ c (2 : Fin 3) = Layout.block ⟨2, ![256, 1024]⟩ ⟨2, ![1024, 1024]⟩ 0 4 c (Clipped.result x w) (by decide) := by
  refine (result_eq m ρ c).trans (funext fun i => ?_)
  obtain ⟨r, j, rfl⟩ : ∃ (r : Fin 256) (j : Fin 1024), i = ix2 r j := ⟨i 0, i 1, eq_ix2 i⟩
  obtain ⟨lo, hi⟩ := product_bounds m x w h hp (at4 c r) j
  rw [block_rows, Clipped.result_apply, clip_id lo hi]
  exact outAt_apply m ρ x w h c r j

end Cert.Exchange

end
-- ==== Proof.lean ====
/- The proof of every claim: the frames of the kernel at both readings of its floats and of the two references, and the
   two value claims. The kernel's run is Proof/Run.lean's (Proof/KernelRun.lean carries it to the program as printed), the
   references' runs are Proof/References.lean's, the equations between them Proof/Values.lean's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.UnclippedIdeal
public import proofs.«01_k».proof.Proof.Gen.Pre_small_parts_KernelIdeal
public import proofs.«01_k».proof.Proof.Gen.Pre_small_parts_ReferenceIdeal
public import proofs.«01_k».proof.Proof.KernelRun
public import proofs.«01_k».proof.Proof.Values

@[expose] public section

noncomputable section

namespace Cert.Proof

open Idealize.ShloMosaic Idealize.ShloMosaic.TcCoe Idealize.SL.Sem
open Cert.Exchange

/-- The kernel as printed, over the machine's floats: it ends, its arguments are kept, its counters are at zero. -/
theorem frame_kernel : Cert.quiescent_Kernel := fun m ρ _ =>
  (θ_run _ _ _).mono (fun r h => ⟨fun c => ⟨(h.1 c (0 : Fin 3)).trans (finalA_x m ρ c), (h.1 c (1 : Fin 3)).trans (finalA_w m ρ c)⟩, h.2⟩)
    (run_printed (F := Bits) m ρ)

/-- The same over the extended reals. -/
theorem frame_ideal : Cert.quiescent_KernelIdeal := fun m ρ _ =>
  (θ_run _ _ _).mono (fun r h => ⟨fun c => ⟨(h.1 c (0 : Fin 3)).trans (finalA_x m ρ c), (h.1 c (1 : Fin 3)).trans (finalA_w m ρ c)⟩, h.2⟩)
    (run_main (F := Ideal) m ρ)

/-- The reference, -/
theorem frame_reference : Cert.quiescent_ReferenceIdeal := fun m ρ _ =>
  (θ_run _ _ _).mono (fun _ h => ⟨fun c => (h.1 c).2, h.2⟩) (Clipped.run_all m ρ)

/-- and the reference without the clip. -/
theorem frame_unclipped : Cert.quiescent_UnclippedIdeal := fun m ρ _ =>
  (θ_run _ _ _).mono (fun _ h => ⟨fun c => (h.1 c).2, h.2⟩) (Plain.run_all m ρ)

/-- Where every part is small, each device ends with its rows of the reference's result. -/
theorem value_reference : Cert.algebraic_KernelIdeal_ReferenceIdeal_pre_small_parts_KernelIdeal := fun m ρ m' ρ' hp h =>
  ⟨Clipped.result (m' ((0 : Dev Cert.ReferenceIdeal.nD).tc.loc Cert.ReferenceIdeal.main_arg0))
      (m' ((0 : Dev Cert.ReferenceIdeal.nD).tc.loc Cert.ReferenceIdeal.main_arg1)),
    (θ_run _ _ _).mono (fun r hr c => ⟨(hr.1 c (2 : Fin 3)).trans (final_clipped m ρ _ _ ⟨fun d => (h d).1, fun d => (h d).2⟩ hp c),
      (hr.1 c (0 : Fin 3)).trans (finalA_x m ρ c), (hr.1 c (1 : Fin 3)).trans (finalA_w m ρ c)⟩) (run_main (F := Ideal) m ρ),
    (θ_run _ _ _).mono (fun _ hr => hr.1 0) (Clipped.run_all m' ρ')⟩

/-- Each device always ends with its rows of the result without the clip. -/
theorem value_unclipped : Cert.algebraic_KernelIdeal_UnclippedIdeal := fun m ρ m' ρ' _ h =>
  ⟨Plain.result (m' ((0 : Dev Cert.UnclippedIdeal.nD).tc.loc Cert.UnclippedIdeal.main_arg0))
      (m' ((0 : Dev Cert.UnclippedIdeal.nD).tc.loc Cert.UnclippedIdeal.main_arg1)),
    (θ_run _ _ _).mono (fun r hr c => ⟨(hr.1 c (2 : Fin 3)).trans (final_plain m ρ _ _ ⟨fun d => (h d).1, fun d => (h d).2⟩ c),
      (hr.1 c (0 : Fin 3)).trans (finalA_x m ρ c), (hr.1 c (1 : Fin 3)).trans (finalA_w m ρ c)⟩) (run_main (F := Ideal) m ρ),
    (θ_run _ _ _).mono (fun _ hr => hr.1 0) (Plain.run_all m' ρ')⟩

/-- All the claims. -/
theorem claim : Cert.Claim :=
  ⟨Cert.Kernel.Gen.facts, Cert.KernelIdeal.Gen.facts, Cert.ReferenceIdeal.Gen.facts, Cert.UnclippedIdeal.Gen.facts,
    Cert.Pre_small_parts_KernelIdeal.Gen.facts, Cert.Pre_small_parts_ReferenceIdeal.Gen.facts,
    frame_kernel, frame_ideal, fun m ρ _ => frame_ideal m ρ trivial, frame_reference, fun m ρ _ => frame_reference m ρ trivial,
    frame_unclipped, trivial, value_reference, value_unclipped⟩

end Cert.Proof

end
